-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_nonzero [hPre_temperature_nonzero : Cert.Pre_temperature_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_nonzero [hPre_temperature_nonzero : Cert.Pre_temperature_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_temperature_nonzero [hKernelIdeal : Cert.KernelIdeal.Facts] [hPre_temperature_nonzero : Cert.Pre_temperature_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_temperature_nonzero [hReferenceIdeal : Cert.ReferenceIdeal.Facts] [hPre_temperature_nonzero : Cert.Pre_temperature_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_temperature_nonzero [hKernelIdeal : Cert.KernelIdeal.Facts] [hReferenceIdeal : Cert.ReferenceIdeal.Facts] [hPre_temperature_nonzero : Cert.Pre_temperature_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_temperature_nonzero : Cert.Pre_temperature_nonzero.Facts),
    quiescent_Kernel (hKernel := hKernel)
    ∧ quiescent_KernelIdeal (hKernelIdeal := hKernelIdeal)
    ∧ quiescent_KernelIdeal_pre_temperature_nonzero (hKernelIdeal := hKernelIdeal) (hPre_temperature_nonzero := hPre_temperature_nonzero)
    ∧ quiescent_ReferenceIdeal (hReferenceIdeal := hReferenceIdeal)
    ∧ quiescent_ReferenceIdeal_pre_temperature_nonzero (hReferenceIdeal := hReferenceIdeal) (hPre_temperature_nonzero := hPre_temperature_nonzero)
    ∧ preserves_Kernel_KernelIdeal
    ∧ algebraic_KernelIdeal_ReferenceIdeal_pre_temperature_nonzero (hKernelIdeal := hKernelIdeal) (hReferenceIdeal := hReferenceIdeal) (hPre_temperature_nonzero := hPre_temperature_nonzero)
-- ==== Pre_temperature_nonzero.lean ====
abbrev S1024x64 : Shape := ⟨2, ![1024, 64]⟩
abbrev S1024 : Shape := ⟨1, ![1024]⟩
abbrev S100000x64 : Shape := ⟨2, ![100000, 64]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : FVec F S1024x64 .f32) (main_arg1 : FVec F S1024x64 .f32) (main_arg2 : IVec S1024 32) (main_arg3 : FVec F S100000x64 .f32) (main_arg4 : FVec F S2 .f32) : IVec S_ 1 :=
  let main_v0 : FVec F S1 .f32 := (extractStridedSlice S1 ![0] · slices_S2_S1_0) main_arg4
  let main_v1 : FVec F S_ .f32 := shapeCast S_ main_v0 shapeCasts_S1_S_
  let main_cst : FVec F S_ .f32 := constant S_ .f32 0x00000000#32
  let main_v2 : IVec S_ 1 := cmpf .une main_v1 main_cst
  main_v2
-- ==== Kernel.lean ====
abbrev S1024x64 : Shape := ⟨2, ![1024, 64]⟩
abbrev S1024 : Shape := ⟨1, ![1024]⟩
abbrev S100000x64 : Shape := ⟨2, ![100000, 64]⟩
abbrev S2 : Shape := ⟨1, ![2]⟩
abbrev S1x2 : Shape := ⟨2, ![1, 2]⟩
abbrev S100000x1024 : Shape := ⟨2, ![100000, 1024]⟩
abbrev S1024x1 : Shape := ⟨2, ![1024, 1]⟩
abbrev S2048x1024 : Shape := ⟨2, ![2048, 1024]⟩
abbrev S4x2048x64 : Shape := ⟨3, ![4, 2048, 64]⟩
abbrev S4 : Shape := ⟨1, ![4]⟩
abbrev S_ : Shape := ⟨0, ![]⟩
abbrev S1 : Shape := ⟨1, ![1]⟩
abbrev S1x2048x64 : Shape := ⟨3, ![1, 2048, 64]⟩
abbrev S2048x64 : Shape := ⟨2, ![2048, 64]⟩
abbrev S1x1696x64 : Shape := ⟨3, ![1, 1696, 64]⟩
abbrev S1696x64 : Shape := ⟨2, ![1696, 64]⟩
abbrev S1x1 : Shape := ⟨2, ![1, 1]⟩
abbrev S1024x100000 : Shape := ⟨2, ![1024, 100000]⟩

abbrev nBuf : Space → Nat
  | .hbm => 11
  | .vmem => 9
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024, .i32⟩
  | .hbm, ⟨3, _⟩ => ⟨S100000x64, .f32⟩
  | .hbm, ⟨4, _⟩ => ⟨S2, .f32⟩
  | .hbm, ⟨5, _⟩ => ⟨S1x2, .f32⟩
  | .hbm, ⟨6, _⟩ => ⟨S100000x1024, .f32⟩
  | .hbm, ⟨7, _⟩ => ⟨S100000x1024, .f32⟩
  | .hbm, ⟨8, _⟩ => ⟨S1024x1, .f32⟩
  | .hbm, ⟨9, _⟩ => ⟨S1024x100000, .f32⟩
  | .hbm, ⟨10, _⟩ => ⟨S1024x100000, .f32⟩
  | .local _ .vmem, ⟨0, _⟩ => ⟨S1024x64, .f32⟩
  | .local _ .vmem, ⟨1, _⟩ => ⟨S1024x64, .f32⟩
  | .local _ .vmem, ⟨2, _⟩ => ⟨S1x2, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S1024x1, .f32⟩
  | .local _ .vmem, ⟨8, _⟩ => ⟨S4x2048x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c3_i32 : BitVec 32 := 3#32
  let v4 : BitVec 32 := Scalar.addi arg0 c3_i32
  let c48_i32 : BitVec 32 := 48#32
  let v6 : BitVec 1 := Scalar.cmpi .slt v4 c48_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c3_i32 : BitVec 32 := 3#32
  let v4 : BitVec 32 := Scalar.addi arg0 c3_i32
  let c4_i32_1 : BitVec 32 := 4#32
  let v5 : BitVec 32 := Scalar.remsi v4 c4_i32_1
  ![v5.toNat]
def k0_off2 (i : grid0.Coords) : Fin 3 → Nat :=
  let arg0 : BitVec 32 := BitVec.ofNat 32 (i 0).val
  let c3_i32 : BitVec 32 := 3#32
  let v4 : BitVec 32 := Scalar.addi arg0 c3_i32
  let c4_i32_1 : BitVec 32 := 4#32
  let v5 : BitVec 32 := Scalar.remsi v4 c4_i32_1
  let c0_i32_24 : BitVec 32 := 0#32
  let c0_i32_25 : BitVec 32 := 0#32
  ![v5.toNat, 0, 0]
def k0_off3 (i : grid0.Coords) : Fin 2 → Nat :=
  let arg0 : BitVec 32 := BitVec.ofNat 32 (i 0).val
  let c3_i32 : BitVec 32 := 3#32
  let v4 : BitVec 32 := Scalar.addi arg0 c3_i32
  let c2048_i32 : BitVec 32 := 2048#32
  let v38 : BitVec 32 := Scalar.muli v4 c2048_i32
  let c0_i32_26 : BitVec 32 := 0#32
  ![v38.toNat, 0]
def k0_cond3 (i : grid0.Coords) : BitVec 1 :=
  let arg0 : BitVec 32 := BitVec.ofNat 32 (i 0).val
  let c3_i32 : BitVec 32 := 3#32
  let v4 : BitVec 32 := Scalar.addi arg0 c3_i32
  let c48_i32_3 : BitVec 32 := 48#32
  let v9 : BitVec 1 := Scalar.cmpi .eq v4 c48_i32_3
  let v10 : BitVec 32 := Scalar.extui v9
  let c0_i32_4 : BitVec 32 := 0#32
  let v11 : BitVec 1 := Scalar.cmpi .ne v10 c0_i32_4
  v11

def k0_off4 (i : grid0.Coords) : Fin 3 → Nat :=
  let arg0 : BitVec 32 := BitVec.ofNat 32 (i 0).val
  let c3_i32 : BitVec 32 := 3#32
  let v4 : BitVec 32 := Scalar.addi arg0 c3_i32
  let c4_i32_1 : BitVec 32 := 4#32
  let v5 : BitVec 32 := Scalar.remsi v4 c4_i32_1
  let c0_i32_24 : BitVec 32 := 0#32
  let c0_i32_25 : BitVec 32 := 0#32
  ![v5.toNat, 0, 0]
def k0_off5 (i : grid0.Coords) : Fin 2 → Nat :=
  let arg0 : BitVec 32 := BitVec.ofNat 32 (i 0).val
  let c3_i32 : BitVec 32 := 3#32
  let v4 : BitVec 32 := Scalar.addi arg0 c3_i32
  let c2048_i32 : BitVec 32 := 2048#32
  let v38 : BitVec 32 := Scalar.muli v4 c2048_i32
  let c0_i32_26 : BitVec 32 := 0#32
  ![v38.toNat, 0]
def k0_cond4 (i : grid0.Coords) : BitVec 1 :=
  let arg0 : BitVec 32 := BitVec.ofNat 32 (i 0).val
  let c48_i32_5 : BitVec 32 := 48#32
  let v12 : BitVec 1 := Scalar.cmpi .slt arg0 c48_i32_5
  let v13 : BitVec 32 := Scalar.extui v12
  let c0_i32_6 : BitVec 32 := 0#32
  let v14 : BitVec 1 := Scalar.cmpi .ne v13 c0_i32_6
  v14

def k0_off6 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off7 (i : grid0.Coords) : Fin 3 → Nat :=
  let arg0 : BitVec 32 := BitVec.ofNat 32 (i 0).val
  let c4_i32 : BitVec 32 := 4#32
  let v0 : BitVec 32 := Scalar.remsi arg0 c4_i32
  let c0_i32_24 : BitVec 32 := 0#32
  let c0_i32_25 : BitVec 32 := 0#32
  ![v0.toNat, 0, 0]
def k0_off8 (i : grid0.Coords) : Fin 2 → Nat :=
  let arg0 : BitVec 32 := BitVec.ofNat 32 (i 0).val
  let c2048_i32 : BitVec 32 := 2048#32
  let v38 : BitVec 32 := Scalar.muli arg0 c2048_i32
  let c0_i32_26 : BitVec 32 := 0#32
  ![v38.toNat, 0]
def k0_cond5 (i : grid0.Coords) : BitVec 1 :=
  let arg0 : BitVec 32 := BitVec.ofNat 32 (i 0).val
  let c48_i32_7 : BitVec 32 := 48#32
  let v15 : BitVec 1 := Scalar.cmpi .eq arg0 c48_i32_7
  let v16 : BitVec 32 := Scalar.extui v15
  let c0_i32_8 : BitVec 32 := 0#32
  let v17 : BitVec 1 := Scalar.cmpi .ne v16 c0_i32_8
  v17

def k0_off9 (i : grid0.Coords) : Fin 3 → Nat :=
  let arg0 : BitVec 32 := BitVec.ofNat 32 (i 0).val
  let c4_i32 : BitVec 32 := 4#32
  let v0 : BitVec 32 := Scalar.remsi arg0 c4_i32
  let c0_i32_24 : BitVec 32 := 0#32
  let c0_i32_25 : BitVec 32 := 0#32
  ![v0.toNat, 0, 0]
def k0_off10 (i : grid0.Coords) : Fin 2 → Nat :=
  let arg0 : BitVec 32 := BitVec.ofNat 32 (i 0).val
  let c2048_i32 : BitVec 32 := 2048#32
  let v38 : BitVec 32 := Scalar.muli arg0 c2048_i32
  let c0_i32_26 : BitVec 32 := 0#32
  ![v38.toNat, 0]
def k0_off11 (i : grid0.Coords) : Fin 3 → Nat :=
  let arg0 : BitVec 32 := BitVec.ofNat 32 (i 0).val
  let c4_i32 : BitVec 32 := 4#32
  let v0 : BitVec 32 := Scalar.remsi arg0 c4_i32
  let v23 : Index := Scalar.indexCast v0
  let c0_14 : Index := 0#32
  let c0_15 : Index := 0#32
  ![v23.toNat, 0, 0]
def k0_cond6 (i : grid0.Coords) : BitVec 1 :=
  let arg0 : BitVec 32 := BitVec.ofNat 32 (i 0).val
  let c0_i32_22 : BitVec 32 := 0#32
  let v35 : BitVec 1 := Scalar.cmpi .eq arg0 c0_i32_22
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x64 : Shape := ⟨2, ![1024, 64]⟩
abbrev S1024 : Shape := ⟨1, ![1024]⟩
abbrev S100000x64 : Shape := ⟨2, ![100000, 64]⟩
abbrev S2 : Shape := ⟨1, ![2]⟩
abbrev S1 : Shape := ⟨1, ![1]⟩
abbrev S_ : Shape := ⟨0, ![]⟩
abbrev S64x100000 : Shape := ⟨2, ![64, 100000]⟩
abbrev S1024x100000 : Shape := ⟨2, ![1024, 100000]⟩
abbrev S1024x1 : Shape := ⟨2, ![1024, 1]⟩

abbrev nBuf : Space → Nat
  | .hbm => 21
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024, .i32⟩
  | .hbm, ⟨3, _⟩ => ⟨S100000x64, .f32⟩
  | .hbm, ⟨4, _⟩ => ⟨S2, .f32⟩
  | .hbm, ⟨5, _⟩ => ⟨S1, .f32⟩
  | .hbm, ⟨6, _⟩ => ⟨S_, .f32⟩
  | .hbm, ⟨7, _⟩ => ⟨S64x100000, .f32⟩
  | .hbm, ⟨8, _⟩ => ⟨S1024x100000, .f32⟩
  | .hbm, ⟨9, _⟩ => ⟨S1024x100000, .f32⟩
  | .hbm, ⟨10, _⟩ => ⟨S1024x100000, .f32⟩
  | .hbm, ⟨11, _⟩ => ⟨S64x100000, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x100000, .f32⟩
  | .hbm, ⟨20, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.SameProgram.lean ====
/-
  The kernel and its ideal instance are one program: the idealization rewrote nothing, so what is proved of a run of the
  ideal program at any reading of the floats is a fact about the kernel's run too.
-/
module

public import proofs.«01_k».proof.Defs
public import proofs.«01_k».proof.Proof.Gen.Kernel
public import proofs.«01_k».proof.Proof.Gen.KernelIdeal

@[expose] public section

noncomputable section

namespace Cert.SameProgram

open Idealize.ShloMosaic Idealize.SL.Sem

variable {F : FTy → Type} [FloatOps F] [Cert.Kernel.Facts] [Cert.KernelIdeal.Facts]

/-- The two tables of body functions agree, label by label. -/
theorem bodies_eq : Cert.Kernel.defs₀ (F := F) = Cert.KernelIdeal.defs₀ (F := F) :=
  congrArg (Defs.onTc (τ := Cert.KernelIdeal.τ)) (funext fun l => funext fun a => by
    match l, a with
    | 0, (_, _) => rfl)

/-- So do the tables the launched program is run with. -/
theorem defs_eq : Cert.Kernel.defs (F := F) = Cert.KernelIdeal.defs (F := F) :=
  congrArg (Pipeline.defs (Cert.KernelIdeal.pcfgs (F := F))) bodies_eq

/-- A fact about every run of the ideal program from a state is a fact about every run of the kernel from it. -/
theorem transport (m : (ℓ : Loc Cert.Kernel.nD Cert.Kernel.τ Cert.Kernel.sig) → Buf (Elt F) ℓ) (g : Dev Cert.Kernel.nD → PrngReg) (Q)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq]; exact h

end Cert.SameProgram

end
-- ==== Proof.Bank.Names.lean ====
/-
  The kernel streams the rows of `memory` through a bank of four slots of scratch, three blocks ahead of the block it
  works on. This module names the pieces — a slot, a block of rows, a semaphore cell, the short last block — and shows
  that the body's operands at a grid point are these pieces.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Which branches a point takes -/

/-- The first point's branch: start the first three blocks. -/
abbrev isFirst (i : grid0.Coords) : Prop :=
  Scalar.cmpi .ne (Scalar.extui (Scalar.cmpi .eq (BitVec.ofNat 32 (i 0).val) 0#32)) 0#32 = 1#1
/-- A whole block is still to be started three steps ahead. -/
abbrev startsWhole (i : grid0.Coords) : Prop := k0_cond2 i = 1#1
/-- The short last block is three steps ahead. -/
abbrev startsTail (i : grid0.Coords) : Prop := k0_cond3 i = 1#1
/-- This point waits for a whole block. -/
abbrev waitsWhole (i : grid0.Coords) : Prop := k0_cond4 i = 1#1
/-- This point waits for the short last block. -/
abbrev waitsTail (i : grid0.Coords) : Prop := k0_cond5 i = 1#1
/-- The first point's branch at the end of the body: compute the similarities of the two feature arrays. -/
abbrev storesSim (i : grid0.Coords) : Prop := k0_cond6 i = 1#1

/-- When each condition holds. -/
theorem isFirst_iff : ∀ t : Fin cfg0.N, isFirst (grid0.coords t) ↔ t.val = 0 :=
  (by decide +kernel : ∀ t : Fin grid0.N, isFirst (grid0.coords t) ↔ t.val = 0)
theorem startsWhole_iff : ∀ t : Fin cfg0.N, startsWhole (grid0.coords t) ↔ t.val < 45 :=
  (by decide +kernel : ∀ t : Fin grid0.N, startsWhole (grid0.coords t) ↔ t.val < 45)
theorem startsTail_iff : ∀ t : Fin cfg0.N, startsTail (grid0.coords t) ↔ t.val = 45 :=
  (by decide +kernel : ∀ t : Fin grid0.N, startsTail (grid0.coords t) ↔ t.val = 45)
theorem waitsWhole_iff : ∀ t : Fin cfg0.N, waitsWhole (grid0.coords t) ↔ t.val < 48 :=
  (by decide +kernel : ∀ t : Fin grid0.N, waitsWhole (grid0.coords t) ↔ t.val < 48)
theorem waitsTail_iff : ∀ t : Fin cfg0.N, waitsTail (grid0.coords t) ↔ t.val = 48 :=
  (by decide +kernel : ∀ t : Fin grid0.N, waitsTail (grid0.coords t) ↔ t.val = 48)
theorem storesSim_iff : ∀ t : Fin cfg0.N, storesSim (grid0.coords t) ↔ t.val = 0 :=
  (by decide +kernel : ∀ t : Fin grid0.N, storesSim (grid0.coords t) ↔ t.val = 0)

/-! ## The operands by name -/

/-- Each window's current staging memref at point `t`, as the pipeline passes it, and that it is whole. -/
abbrev ms0 (t : Fin cfg0.N) : Memref sig .tc .vmem S1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-- The scratch that holds the four slots, whole. -/
abbrev bankM : Memref sig .tc .vmem S4x2048x64 .f32 := Memref.whole cc0_scratch0
/-- The array of rows the kernel streams, whole, where it lies in HBM. -/
abbrev rowsM : Memref sig .tc .hbm S100000x64 .f32 := Memref.whole main_arg3

/-- The views are within their arrays. -/
theorem inb_slot (s : Fin 4) : ∀ a, (![s.val, 0, 0] : Fin 3 → Nat) a + S1x2048x64.size a ≤ S4x2048x64.size a := by
  have := s.isLt; intro a; fin_cases a <;> simp <;> omega
theorem inb_blk (b : Fin 48) : ∀ a, (![2048 * b.val, 0] : Fin 2 → Nat) a + S2048x64.size a ≤ S100000x64.size a := by
  have := b.isLt; intro a; fin_cases a <;> simp <;> omega
theorem inb_cell (s : Fin 4) : ∀ a, (![s.val] : Fin 1 → Nat) a + S1.size a ≤ S4.size a := by
  have := s.isLt; intro a; fin_cases a <;> simp <;> omega
theorem inb_tail : ∀ a, (![0, 0, 0] : Fin 3 → Nat) a + S1x1696x64.size a ≤ S4x2048x64.size a := by
  intro a; fin_cases a <;> simp
theorem inb_tailRows : ∀ a, (![98304, 0] : Fin 2 → Nat) a + S1696x64.size a ≤ S100000x64.size a := by
  intro a; fin_cases a <;> simp

/-- Slot `s` of the bank: 2048 rows. -/
def slotM (s : Fin 4) : Memref sig .tc .vmem S2048x64 .f32 :=
  (bankM.slice (Rect.unit (s := S4x2048x64) ![s.val, 0, 0] S1x2048x64.size (inb_slot s)) (fun _ => rfl)).squeeze S2048x64 squeezes_S1x2048x64_S2048x64
/-- The whole block `b` of the rows: rows `2048 * b` to `2048 * b + 2047`. -/
def blkM (b : Fin 48) : Memref sig .tc .hbm S2048x64 .f32 :=
  rowsM.slice (Rect.unit (s := S100000x64) ![2048 * b.val, 0] S2048x64.size (inb_blk b)) (fun _ => rfl)
/-- The semaphore cell of slot `s`. -/
def cellM (s : Fin 4) : DmaSems sig S_ :=
  (cc0_scratch1.slice (Rect.unit (s := S4) ![s.val] S1.size (inb_cell s))).squeeze S_ squeezes_S1_S_
abbrev cell (s : Fin 4) : SemLoc sig := SemLoc.dma (cellM s).sem
/-- The first 1696 rows of slot 0, where the short last block lands. -/
def tailM : Memref sig .tc .vmem S1696x64 .f32 :=
  (bankM.slice (Rect.unit (s := S4x2048x64) ![0, 0, 0] S1x1696x64.size inb_tail) (fun _ => rfl)).squeeze S1696x64 squeezes_S1x1696x64_S1696x64
/-- The short last block of the rows: rows 98304 to 99999. -/
def tailBlkM : Memref sig .tc .hbm S1696x64 .f32 :=
  rowsM.slice (Rect.unit (s := S100000x64) ![98304, 0] S1696x64.size inb_tailRows) (fun _ => rfl)
/-- The semaphore of the short last block's copy. -/
abbrev tailCell : SemLoc sig := SemLoc.dma cc0_scratch2.sem

theorem cell_0 : cell 0 = SemLoc.dma 8 := by decide
theorem cell_1 : cell 1 = SemLoc.dma 9 := by decide
theorem cell_2 : cell 2 = SemLoc.dma 10 := by decide
theorem cell_3 : cell 3 = SemLoc.dma 11 := by decide
theorem tailCell_eq : tailCell = SemLoc.dma 12 := by decide

/-! ## The slots tile the bank -/

abbrev slotSet (s : Fin 4) : Finset S4x2048x64.Idx :=
  (Rect.unit (s := S4x2048x64) ![s.val, 0, 0] S1x2048x64.size (inb_slot s)).set
abbrev tailSet : Finset S4x2048x64.Idx :=
  (Rect.unit (s := S4x2048x64) ![0, 0, 0] S1x1696x64.size inb_tail).set
theorem slotM_set (s : Fin 4) : (slotM s).view.set = slotSet s := by
  simp only [slotM, Memref.view_squeeze, View.set_reshape]; exact View.set_slice_whole _ _
theorem tailM_set : tailM.view.set = tailSet := by
  simp only [tailM, Memref.view_squeeze, View.set_reshape]; exact View.set_slice_whole _ _
/-- The slots are apart, and together the bank. -/
theorem slots_disjoint (s s' : Fin 4) (h : s ≠ s') : Disjoint (slotSet s) (slotSet s') :=
  Ring.lead_disjoint (s := S4x2048x64) (0 : Fin 3) 1 (fun s : Fin 4 => (![s.val, 0, 0] : Fin 3 → Nat)) S1x2048x64.size inb_slot
    (fun s => by simp) rfl s s' h
theorem slots_cover : Finset.univ.biUnion slotSet = Finset.univ :=
  Ring.lead_cover (s := S4x2048x64) (0 : Fin 3) 1 (fun s : Fin 4 => (![s.val, 0, 0] : Fin 3 → Nat)) S1x2048x64.size inb_slot (fun s => by simp)
    (fun s a ha => by fin_cases a <;> first | exact absurd rfl ha | rfl) rfl (fun a ha => by fin_cases a <;> first | exact absurd rfl ha | rfl) rfl
/-- The short block's rows lie in slot 0. -/
theorem tailSet_sub : tailSet ⊆ slotSet 0 := by
  intro x hx
  rw [Rect.mem_set_unit] at hx ⊢
  intro a
  have h := hx a
  fin_cases a <;> simp at h ⊢ <;> omega

/-! ## The body's operands at a point, by these names -/

section Spelled
instance : NeZero grid0.N := ⟨by rw [N_0]; decide⟩

/-- The slot at an offset that is `s`'s, under any proof that it fits. -/
theorem slot_of {off : Fin 3 → Nat} {s : Fin 4} (h : off = ![s.val, 0, 0]) (inb : ∀ a, off a + S1x2048x64.size a ≤ S4x2048x64.size a) :
    (bankM.slice (Rect.unit (s := S4x2048x64) off S1x2048x64.size inb) (fun _ => rfl)).squeeze S2048x64 squeezes_S1x2048x64_S2048x64 = slotM s := by
  subst h; rfl
/-- The printed views are these, at the offsets they have. -/
theorem cell_of {off : Fin 1 → Nat} {s : Fin 4} (h : off = ![s.val]) (inb : ∀ a, off a + S1.size a ≤ S4.size a) :
    (cc0_scratch1.slice (Rect.unit (s := S4) off S1.size inb)).squeeze S_ squeezes_S1_S_ = cellM s := by
  subst h; rfl
theorem blk_of {off : Fin 2 → Nat} {b : Fin 48} (h : off = ![2048 * b.val, 0]) (inb : ∀ a, off a + S2048x64.size a ≤ S100000x64.size a) :
    rowsM.slice (Rect.unit (s := S100000x64) off S2048x64.size inb) (fun _ => rfl) = blkM b := by
  subst h; rfl
theorem tail_of {off : Fin 3 → Nat} (h : off = ![0, 0, 0]) (inb : ∀ a, off a + S1x1696x64.size a ≤ S4x2048x64.size a) :
    (bankM.slice (Rect.unit (s := S4x2048x64) off S1x1696x64.size inb) (fun _ => rfl)).squeeze S1696x64 squeezes_S1x1696x64_S1696x64 = tailM := by
  subst h; rfl
theorem tailBlk_of {off : Fin 2 → Nat} (h : off = ![98304, 0]) (inb : ∀ a, off a + S1696x64.size a ≤ S100000x64.size a) :
    rowsM.slice (Rect.unit (s := S100000x64) off S1696x64.size inb) (fun _ => rfl) = tailBlkM := by
  subst h; rfl

set_option synthInstance.maxSize 4096

/-- The offsets of point `t`'s operands in closed form: the cell, slot and block started; -/
theorem off_startCell : ∀ t : Fin grid0.N, k0_off1 (grid0.coords t) = ![(Ring.sl 4 (t.val + 3)).val] := by decide +kernel
/-- The offsets at a point. -/
theorem off_startSlot : ∀ t : Fin grid0.N, k0_off2 (grid0.coords t) = ![(Ring.sl 4 (t.val + 3)).val, 0, 0] := by decide +kernel
theorem off_startBlk : ∀ t : Fin grid0.N, startsWhole (grid0.coords t) → k0_off3 (grid0.coords t) = ![2048 * (Ring.bk 48 (t.val + 3)).val, 0] := by decide +kernel
/-- the short last block started; -/
theorem off_startTail : ∀ t : Fin grid0.N, startsTail (grid0.coords t) → k0_off4 (grid0.coords t) = ![0, 0, 0] := by decide +kernel
theorem off_startTailBlk : ∀ t : Fin grid0.N, startsTail (grid0.coords t) → k0_off5 (grid0.coords t) = ![98304, 0] := by decide +kernel
/-- the cell, slot and block waited for; -/
theorem off_waitCell : ∀ t : Fin grid0.N, k0_off6 (grid0.coords t) = ![(Ring.sl 4 t.val).val] := by decide +kernel
theorem off_waitSlot : ∀ t : Fin grid0.N, k0_off7 (grid0.coords t) = ![(Ring.sl 4 t.val).val, 0, 0] := by decide +kernel
theorem off_waitBlk : ∀ t : Fin grid0.N, waitsWhole (grid0.coords t) → k0_off8 (grid0.coords t) = ![2048 * (Ring.bk 48 t.val).val, 0] := by decide +kernel
/-- the short last block waited for; -/
theorem off_waitTail : ∀ t : Fin grid0.N, waitsTail (grid0.coords t) → k0_off9 (grid0.coords t) = ![0, 0, 0] := by decide +kernel
theorem off_waitTailBlk : ∀ t : Fin grid0.N, waitsTail (grid0.coords t) → k0_off10 (grid0.coords t) = ![98304, 0] := by decide +kernel
/-- and the slot read. -/
theorem off_read : ∀ t : Fin grid0.N, k0_off11 (grid0.coords t) = ![(Ring.sl 4 t.val).val, 0, 0] := by decide +kernel
instance (priority := high) closedOff_read (t : Fin grid0.N) : ClosedOff (k0_off11 (grid0.coords t)) := ⟨![(Ring.sl 4 t.val).val, 0, 0], off_read t⟩

@[sl_canon] theorem spell_startCell (t : Fin grid0.N) (h : startsWhole (grid0.coords t)) :
    (cc0_scratch1.slice (Rect.unit (s := S4) (k0_off1 (grid0.coords t)) S1.size (k0_off1_inb (grid0.coords t) h))).squeeze S_ squeezes_S1_S_
      = cellM (Ring.sl 4 (t.val + 3)) := cell_of (off_startCell t) _
@[sl_canon] theorem spell_startSlot (t : Fin grid0.N) (h : startsWhole (grid0.coords t)) :
    (bankM.slice (Rect.unit (s := S4x2048x64) (k0_off2 (grid0.coords t)) S1x2048x64.size (k0_off2_inb (grid0.coords t) h)) (fun _ => rfl)).squeeze S2048x64 squeezes_S1x2048x64_S2048x64
      = slotM (Ring.sl 4 (t.val + 3)) := slot_of (off_startSlot t) _
@[sl_canon] theorem spell_startBlk (t : Fin grid0.N) (h : startsWhole (grid0.coords t)) :
    rowsM.slice (Rect.unit (s := S100000x64) (k0_off3 (grid0.coords t)) S2048x64.size (k0_off3_inb (grid0.coords t) h)) (fun _ => rfl)
      = blkM (Ring.bk 48 (t.val + 3)) := blk_of (off_startBlk t h) _
@[sl_canon] theorem spell_startTail (t : Fin grid0.N) (h : startsTail (grid0.coords t)) :
    (bankM.slice (Rect.unit (s := S4x2048x64) (k0_off4 (grid0.coords t)) S1x1696x64.size (k0_off4_inb (grid0.coords t) h)) (fun _ => rfl)).squeeze S1696x64 squeezes_S1x1696x64_S1696x64
      = tailM := tail_of (off_startTail t h) _
@[sl_canon] theorem spell_startTailBlk (t : Fin grid0.N) (h : startsTail (grid0.coords t)) :
    rowsM.slice (Rect.unit (s := S100000x64) (k0_off5 (grid0.coords t)) S1696x64.size (k0_off5_inb (grid0.coords t) h)) (fun _ => rfl)
      = tailBlkM := tailBlk_of (off_startTailBlk t h) _
@[sl_canon] theorem spell_waitCell (t : Fin grid0.N) (h : waitsWhole (grid0.coords t)) :
    (cc0_scratch1.slice (Rect.unit (s := S4) (k0_off6 (grid0.coords t)) S1.size (k0_off6_inb (grid0.coords t) h))).squeeze S_ squeezes_S1_S_
      = cellM (Ring.sl 4 t.val) := cell_of (off_waitCell t) _
@[sl_canon] theorem spell_waitSlot (t : Fin grid0.N) (h : waitsWhole (grid0.coords t)) :
    (bankM.slice (Rect.unit (s := S4x2048x64) (k0_off7 (grid0.coords t)) S1x2048x64.size (k0_off7_inb (grid0.coords t) h)) (fun _ => rfl)).squeeze S2048x64 squeezes_S1x2048x64_S2048x64
      = slotM (Ring.sl 4 t.val) := slot_of (off_waitSlot t) _
@[sl_canon] theorem spell_waitBlk (t : Fin grid0.N) (h : waitsWhole (grid0.coords t)) :
    rowsM.slice (Rect.unit (s := S100000x64) (k0_off8 (grid0.coords t)) S2048x64.size (k0_off8_inb (grid0.coords t) h)) (fun _ => rfl)
      = blkM (Ring.bk 48 t.val) := blk_of (off_waitBlk t h) _
@[sl_canon] theorem spell_waitTail (t : Fin grid0.N) (h : waitsTail (grid0.coords t)) :
    (bankM.slice (Rect.unit (s := S4x2048x64) (k0_off9 (grid0.coords t)) S1x1696x64.size (k0_off9_inb (grid0.coords t) h)) (fun _ => rfl)).squeeze S1696x64 squeezes_S1x1696x64_S1696x64
      = tailM := tail_of (off_waitTail t h) _
@[sl_canon] theorem spell_waitTailBlk (t : Fin grid0.N) (h : waitsTail (grid0.coords t)) :
    rowsM.slice (Rect.unit (s := S100000x64) (k0_off10 (grid0.coords t)) S1696x64.size (k0_off10_inb (grid0.coords t) h)) (fun _ => rfl)
      = tailBlkM := tailBlk_of (off_waitTailBlk t h) _

/-- The first point's three starts, whose offsets are literal: slots, cells and blocks `t`, `t + 1`, `t + 2` with `t = 0`. -/
theorem first_off (t : Fin grid0.N) (h : isFirst (grid0.coords t)) (k : ℕ) :
    (Ring.sl 4 (t.val + k)).val = k % 4 ∧ (Ring.bk 48 (t.val + k)).val = k % 48 := by
  have : t.val = 0 := (isFirst_iff t).1 h
  simp [this, Ring.sl, Ring.bk, Fin.ofNat]
@[sl_canon] theorem spell_first0 (t : Fin grid0.N) (h : isFirst (grid0.coords t)) :
    (bankM.slice (Rect.unit (s := S4x2048x64) ![0, 0, 0] S1x2048x64.size inb_S4x2048x64_S1x2048x64_0_0_0) (fun _ => rfl)).squeeze S2048x64 squeezes_S1x2048x64_S2048x64
      = slotM (Ring.sl 4 t.val) := slot_of (by rw [(isFirst_iff t).1 h]; rfl) _
@[sl_canon] theorem spell_first1 (t : Fin grid0.N) (h : isFirst (grid0.coords t)) :
    (bankM.slice (Rect.unit (s := S4x2048x64) ![1, 0, 0] S1x2048x64.size inb_S4x2048x64_S1x2048x64_1_0_0) (fun _ => rfl)).squeeze S2048x64 squeezes_S1x2048x64_S2048x64
      = slotM (Ring.sl 4 (t.val + 1)) := slot_of (by rw [(first_off t h 1).1]) _
@[sl_canon] theorem spell_first2 (t : Fin grid0.N) (h : isFirst (grid0.coords t)) :
    (bankM.slice (Rect.unit (s := S4x2048x64) ![2, 0, 0] S1x2048x64.size inb_S4x2048x64_S1x2048x64_2_0_0) (fun _ => rfl)).squeeze S2048x64 squeezes_S1x2048x64_S2048x64
      = slotM (Ring.sl 4 (t.val + 2)) := slot_of (by rw [(first_off t h 2).1]) _
@[sl_canon] theorem spell_firstCell0 (t : Fin grid0.N) (h : isFirst (grid0.coords t)) :
    (cc0_scratch1.slice (Rect.unit (s := S4) ![0] S1.size inb_S4_S1_0)).squeeze S_ squeezes_S1_S_ = cellM (Ring.sl 4 t.val) :=
  cell_of (by rw [(isFirst_iff t).1 h]; rfl) _
@[sl_canon] theorem spell_firstCell1 (t : Fin grid0.N) (h : isFirst (grid0.coords t)) :
    (cc0_scratch1.slice (Rect.unit (s := S4) ![1] S1.size inb_S4_S1_1)).squeeze S_ squeezes_S1_S_ = cellM (Ring.sl 4 (t.val + 1)) :=
  cell_of (by rw [(first_off t h 1).1]) _
@[sl_canon] theorem spell_firstCell2 (t : Fin grid0.N) (h : isFirst (grid0.coords t)) :
    (cc0_scratch1.slice (Rect.unit (s := S4) ![2] S1.size inb_S4_S1_2)).squeeze S_ squeezes_S1_S_ = cellM (Ring.sl 4 (t.val + 2)) :=
  cell_of (by rw [(first_off t h 2).1]) _
@[sl_canon] theorem spell_firstBlk0 (t : Fin grid0.N) (h : isFirst (grid0.coords t)) :
    rowsM.slice (Rect.unit (s := S100000x64) ![0, 0] S2048x64.size inb_S100000x64_S2048x64_0_0) (fun _ => rfl) = blkM (Ring.bk 48 t.val) :=
  blk_of (by rw [(isFirst_iff t).1 h]; rfl) _
@[sl_canon] theorem spell_firstBlk1 (t : Fin grid0.N) (h : isFirst (grid0.coords t)) :
    rowsM.slice (Rect.unit (s := S100000x64) ![2048, 0] S2048x64.size inb_S100000x64_S2048x64_2048_0) (fun _ => rfl) = blkM (Ring.bk 48 (t.val + 1)) :=
  blk_of (by rw [(first_off t h 1).2]) _
@[sl_canon] theorem spell_firstBlk2 (t : Fin grid0.N) (h : isFirst (grid0.coords t)) :
    rowsM.slice (Rect.unit (s := S100000x64) ![4096, 0] S2048x64.size inb_S100000x64_S2048x64_4096_0) (fun _ => rfl) = blkM (Ring.bk 48 (t.val + 2)) :=
  blk_of (by rw [(first_off t h 2).2]) _
end Spelled

end Cert.KernelIdeal.Bank

end
-- ==== Proof.Bank.State.lean ====
/-
  What the bank of slots holds before each grid point, and that the launch hands it over and gets it back.
-/
module

public import proofs.«01_k».proof.Proof.Bank.Names

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of memref `M`'s buffer on core `c`. -/
abbrev BufOf (c : Dev nD) {sp : Space} {S : Shape} {e : EltTy} (M : Memref sig .tc sp S e) : Type := Buf (Elt F) (M.view.loc (c : Thread nD τ))

/-- Elements outside a view are untouched by a write through it. -/
theorem pointsTo_off_write (c : Dev nD) {sp : Space} {s : Shape} {e : EltTy} (v : View sig .tc sp s e) (S : Finset v.ty.Idx) (q : PosShare TreeShare)
    (f : Buf (Elt F) (v.loc (c : Thread nD τ))) (p : View.Piece (Elt F) s e) :
    (v.loc (c : Thread nD τ) ↦[S \ v.set]{q} f : sProp 𝕄) = v.loc (c : Thread nD τ) ↦[S \ v.set]{q} v.writes (Elt F) f [p] :=
  pointsTo_congr fun i hi => by
    have hi := (Finset.mem_sdiff.1 hi).2
    rw [View.writes_cons, View.writes_nil]
    exact (View.write_of_not_mem _ _ _ fun h => hi (View.set_slice_subset v p.1 (View.setOn_subset_set (v.slice p.1) _ h))).symm

section Pieces
variable (c : Dev nD) (W : BufOf (F := F) c rowsM)

/-- The array of rows, whole. -/
abbrev rowsP : sProp 𝕄 := rowsM.view.loc (c : Thread nD τ) ↦{fullShare} W
/-- The share of the rows that slot `s`'s copies borrow from. -/
abbrev shareOf (s : Fin 4) : PosShare TreeShare :=
  if s.val = 0 then fullShare.left else if s.val = 1 then fullShare.right.left
  else if s.val = 2 then fullShare.right.right.left else fullShare.right.right.right
/-- Slot `s` holds `f`. -/
abbrev slotP (s : Fin 4) (f : BufOf (F := F) c (slotM s)) : sProp 𝕄 := (slotM s).view.loc (c : Thread nD τ) ↦[(slotM s).view.set]{fullShare} f
/-- Slot `s`'s cell counts zero. -/
abbrev cellP (s : Fin 4) : sProp 𝕄 := semVal ((c : Thread nD τ), cell s) 0
/-- Slot `s`'s share of all rows; of block `b`'s rows; of the other rows. -/
abbrev allP (s : Fin 4) : sProp 𝕄 := ((c : Thread nD τ).loc main_arg3) ↦[Finset.univ]{shareOf s} W
/-- The share of slot `s` in block `b`, and in the rest of the memory array. -/
abbrev blkP (s : Fin 4) (b : Fin 48) : sProp 𝕄 := (blkM b).view.loc (c : Thread nD τ) ↦[(blkM b).view.set]{shareOf s} W
def offBlkP (s : Fin 4) (b : Fin 48) : sProp 𝕄 := ((c : Thread nD τ).loc main_arg3) ↦[Finset.univ \ (blkM b).view.set]{shareOf s} W
/-- Slot `s`'s contents when block `b` has landed in it over `f`. -/
abbrev landed (s : Fin 4) (b : Fin 48) (f : BufOf (F := F) c (slotM s)) : BufOf (F := F) c (slotM s) :=
  (slotM s).view.writes (Elt F) f [⟨Rect.whole S2048x64, ReadAs.same.apply ((blkM b).view.read (Elt F) W)⟩]
/-- The copy of block `b` into slot `s`, under way. -/
abbrev copyP (s : Fin 4) (b : Fin 48) (f : BufOf (F := F) c (slotM s)) : sProp 𝕄 :=
  Transfers.Flight countersEmb (c : Thread nD τ) (cell s) default ((slotM s).view.amount (cell s))
    iprop(slotP c s (landed c W s b f) ∗ blkP c W s b)

/-- The short last block's counterparts: its semaphore at zero, its place in slot 0, its rows and the other rows, … -/
abbrev tailCellP : sProp 𝕄 := semVal ((c : Thread nD τ), tailCell) 0
/-- The part of slot 0 that the short block fills. -/
abbrev tailP (f : BufOf (F := F) c tailM) : sProp 𝕄 := tailM.view.loc (c : Thread nD τ) ↦[tailM.view.set]{fullShare} f
/-- The share of slot 0 in the short block, and in the rest of the memory array. -/
abbrev tailBlkP : sProp 𝕄 := tailBlkM.view.loc (c : Thread nD τ) ↦[tailBlkM.view.set]{shareOf 0} W
def offTailBlkP : sProp 𝕄 := ((c : Thread nD τ).loc main_arg3) ↦[Finset.univ \ tailBlkM.view.set]{shareOf 0} W
abbrev tailLanded (f : BufOf (F := F) c tailM) : BufOf (F := F) c tailM :=
  tailM.view.writes (Elt F) f [⟨Rect.whole S1696x64, ReadAs.same.apply (tailBlkM.view.read (Elt F) W)⟩]
/-- … the rows of slot 0 past it, … -/
def pastTailP (f : BufOf (F := F) c tailM) : sProp 𝕄 := tailM.view.loc (c : Thread nD τ) ↦[slotSet 0 \ tailM.view.set]{fullShare} f
/-- … and its copy under way. -/
abbrev tailCopyP (f : BufOf (F := F) c tailM) : sProp 𝕄 :=
  Transfers.Flight countersEmb (c : Thread nD τ) tailCell default (tailM.view.amount tailCell)
    iprop(tailP c (tailLanded c W f) ∗ tailBlkP c W)

/-! ## The bank before a point -/

/-- Slot `s` free: its cell at zero, anything in it, its share of the rows home. -/
def free (s : Fin 4) : sProp 𝕄 := iprop(cellP c s ∗ (∃ f, slotP c s f) ∗ allP c W s)
/-- The slot of block `n` with that block in it, nothing under way. -/
def holds (n : ℕ) : sProp 𝕄 :=
  iprop(cellP c (Ring.sl 4 n) ∗ (∃ f, slotP c (Ring.sl 4 n) (landed c W (Ring.sl 4 n) (Ring.bk 48 n) f)) ∗ allP c W (Ring.sl 4 n))
/-- Block `n`'s copy into its slot under way. -/
def coming (n : ℕ) : sProp 𝕄 :=
  iprop((∃ f, copyP c W (Ring.sl 4 n) (Ring.bk 48 n) f) ∗ offBlkP c W (Ring.sl 4 n) (Ring.bk 48 n))
/-- Slot 0 with block 44 in it, ready for the short last block. -/
def tailReady : sProp 𝕄 :=
  iprop(cellP c 0 ∗ (∃ f, tailP c (landed c W 0 44 f) ∗ pastTailP c (landed c W 0 44 f)) ∗ tailBlkP c W ∗ offTailBlkP c W ∗ tailCellP c)
/-- The short last block's copy into slot 0 under way, over block 44. -/
def tailComing : sProp 𝕄 :=
  iprop((∃ f, tailCopyP c W (landed c W 0 44 f) ∗ pastTailP c (landed c W 0 44 f)) ∗ cellP c 0 ∗ offTailBlkP c W)
/-- The slot of block `n` once its copy was issued; past the last block (number 48, the short one), the slot keeps the
    block it had four steps before. -/
def pend (n : ℕ) : sProp 𝕄 :=
  if n < 48 then coming c W n else if n = 48 then tailComing c W else holds c W (n - 4)
/-- The bank before point `k`: at first free; then the block before in its slot and the next three under way; free at
    the end. The short block's semaphore is at zero but while its copy is under way. -/
def bank (k : ℕ) : sProp 𝕄 :=
  if k = 0 then iprop(free c W 0 ∗ free c W 1 ∗ free c W 2 ∗ free c W 3 ∗ tailCellP c)
  else if k ≤ 45 then iprop(holds c W (k - 1) ∗ pend c W k ∗ pend c W (k + 1) ∗ pend c W (k + 2) ∗ tailCellP c)
  else if k ≤ 48 then iprop(holds c W (k - 1) ∗ pend c W k ∗ pend c W (k + 1) ∗ pend c W (k + 2))
  else iprop(free c W 0 ∗ free c W 1 ∗ free c W 2 ∗ free c W 3 ∗ tailCellP c)

/-! ## Taking pieces apart and together -/

theorem slotP_eq (s : Fin 4) (f) : slotP (F := F) c s f = (((c : Thread nD τ).loc cc0_scratch0) ↦[slotSet s]{fullShare} f : sProp 𝕄) := by
  unfold slotP; rw [slotM_set]; rfl
theorem tailP_eq (f) : tailP (F := F) c f = (((c : Thread nD τ).loc cc0_scratch0) ↦[tailSet]{fullShare} f : sProp 𝕄) := by
  unfold tailP; rw [tailM_set]; rfl
/-- A slot's share of the rows is a block's rows and the others. -/
theorem allP_split (s : Fin 4) (b : Fin 48) : allP (F := F) c W s ⊣⊢ iprop(blkP c W s b ∗ offBlkP c W s b) := by
  unfold offBlkP; exact pointsTo_split_subset (Finset.subset_univ _)
theorem allP_splitTail : allP (F := F) c W 0 ⊣⊢ iprop(tailBlkP c W ∗ offTailBlkP c W) := by
  unfold offTailBlkP; exact pointsTo_split_subset (Finset.subset_univ _)
/-- Slot 0 is the short block's place and the rows past it. -/
theorem slotP_splitTail (f : BufOf (F := F) c tailM) : slotP (F := F) c 0 f ⊣⊢ iprop(tailP c f ∗ pastTailP c f) := by
  have h : slotP (F := F) c 0 f = (((c : Thread nD τ).loc cc0_scratch0) ↦[slotSet 0]{fullShare} f : sProp 𝕄) := slotP_eq c 0 f
  have h' : (((c : Thread nD τ).loc cc0_scratch0) ↦[slotSet 0]{fullShare} f : sProp 𝕄) ⊣⊢ iprop(tailP c f ∗ pastTailP c f) := by
    unfold tailP pastTailP; exact pointsTo_split_subset (by rw [tailM_set]; exact tailSet_sub)
  exact Eq.mpr (congrArg (fun P : sProp 𝕄 => P ⊣⊢ iprop(tailP c f ∗ pastTailP c f)) h) h'
/-- Landing the short block leaves the rows past it alone. -/
theorem pastTailP_landed (f : BufOf (F := F) c tailM) : pastTailP (F := F) c f = pastTailP c (tailLanded c W f) := by
  unfold pastTailP; exact pointsTo_off_write c _ _ _ _ _
/-- The rows at the full share are the four slots' shares. -/
theorem rowsP_split : (rowsP c W : sProp 𝕄) ⊣⊢ iprop(allP c W 0 ∗ allP c W 1 ∗ allP c W 2 ∗ allP c W 3) := by
  refine ⟨?_, ?_⟩
  · iintro H
    ihave G := (pointsTo_share (PosShare.mem_left_op_right fullShare)).1 $$ H
    icases G with ⟨A, B⟩
    ihave G := (pointsTo_share (PosShare.mem_left_op_right fullShare.right)).1 $$ B
    icases G with ⟨A', B⟩
    ihave G := (pointsTo_share (PosShare.mem_left_op_right fullShare.right.right)).1 $$ B
    icases G with ⟨A'', B⟩
    isplitl [A]; · iexact A
    isplitl [A']; · iexact A'
    isplitl [A'']; · iexact A''
    iexact B
  · iintro ⟨A, A', A'', B⟩
    iapply (pointsTo_share (PosShare.mem_left_op_right fullShare)).2
    isplitl [A]; · iexact A
    iapply (pointsTo_share (PosShare.mem_left_op_right fullShare.right)).2
    isplitl [A']; · iexact A'
    iapply (pointsTo_share (PosShare.mem_left_op_right fullShare.right.right)).2
    isplitl [A'']; · iexact A''
    iexact B

set_option maxHeartbeats 1000000 in
/-- The scratch whole at anything is the four slots at something each, -/
theorem bank_open : iprop(∃ d, owns (c : Thread nD τ) bankM fullShare d)
    ⊢ (iprop((∃ f, slotP (F := F) c 0 f) ∗ (∃ f, slotP (F := F) c 1 f) ∗ (∃ f, slotP (F := F) c 2 f) ∗ ∃ f, slotP (F := F) c 3 f) : sProp 𝕄) := by
  simp only [bankM, owns_whole]
  exact Ring.slots4_split (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)
set_option maxHeartbeats 1000000 in
/-- and back. -/
theorem bank_close : (iprop((∃ f, slotP (F := F) c 0 f) ∗ (∃ f, slotP (F := F) c 1 f) ∗ (∃ f, slotP (F := F) c 2 f) ∗ ∃ f, slotP (F := F) c 3 f) : sProp 𝕄)
    ⊢ iprop(∃ d, owns (c : Thread nD τ) bankM fullShare d) := by
  simp only [bankM, owns_whole]
  exact Ring.slots4_join (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)

theorem cellP_0 : cellP (F := F) c 0 = semVal ((c : Thread nD τ), SemLoc.dma 8) 0 := congrArg (fun x => (semVal ((c : Thread nD τ), x) 0 : sProp 𝕄)) cell_0
theorem cellP_1 : cellP (F := F) c 1 = semVal ((c : Thread nD τ), SemLoc.dma 9) 0 := congrArg (fun x => (semVal ((c : Thread nD τ), x) 0 : sProp 𝕄)) cell_1
theorem cellP_2 : cellP (F := F) c 2 = semVal ((c : Thread nD τ), SemLoc.dma 10) 0 := congrArg (fun x => (semVal ((c : Thread nD τ), x) 0 : sProp 𝕄)) cell_2
theorem cellP_3 : cellP (F := F) c 3 = semVal ((c : Thread nD τ), SemLoc.dma 11) 0 := congrArg (fun x => (semVal ((c : Thread nD τ), x) 0 : sProp 𝕄)) cell_3
theorem tailCellP_eq : tailCellP (F := F) c = semVal ((c : Thread nD τ), SemLoc.dma 12) 0 := congrArg (fun x => (semVal ((c : Thread nD τ), x) 0 : sProp 𝕄)) tailCell_eq

/-- The five semaphores at zero, by their numbers. -/
abbrev semsP : sProp 𝕄 :=
  iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)

/-- Four free slots and the short block's semaphore are what the launch hands over: the scratch, the semaphores, the rows. -/
theorem free_iff : iprop(free c W 0 ∗ free c W 1 ∗ free c W 2 ∗ free c W 3 ∗ tailCellP c)
    ⊣⊢ (iprop((∃ d, owns (c : Thread nD τ) bankM fullShare d) ∗ semsP c ∗ rowsP c W) : sProp 𝕄) := by
  unfold free semsP
  rw [cellP_0, cellP_1, cellP_2, cellP_3, tailCellP_eq]
  refine ⟨?_, ?_⟩
  · iintro ⟨⟨C0, S0, R0⟩, ⟨C1, S1, R1⟩, ⟨C2, S2, R2⟩, ⟨C3, S3, R3⟩, T⟩
    isplitl [S0 S1 S2 S3]
    · iapply (bank_close (F := F) c)
      isplitl [S0]; · iexact S0
      isplitl [S1]; · iexact S1
      isplitl [S2]; · iexact S2
      iexact S3
    isplitl [C0 C1 C2 C3 T]
    · isplitl [C0]; · iexact C0
      isplitl [C1]; · iexact C1
      isplitl [C2]; · iexact C2
      isplitl [C3]; · iexact C3
      iexact T
    iapply (rowsP_split (F := F) c W).2
    isplitl [R0]; · iexact R0
    isplitl [R1]; · iexact R1
    isplitl [R2]; · iexact R2
    iexact R3
  · iintro ⟨S, ⟨C0, C1, C2, C3, T⟩, R⟩
    ihave S := (bank_open (F := F) c) $$ S
    icases S with ⟨S0, S1, S2, S3⟩
    ihave R := (rowsP_split (F := F) c W).1 $$ R
    icases R with ⟨R0, R1, R2, R3⟩
    isplitl [C0 S0 R0]
    · isplitl [C0]; · iexact C0
      isplitl [S0]; · iexact S0
      iexact R0
    isplitl [C1 S1 R1]
    · isplitl [C1]; · iexact C1
      isplitl [S1]; · iexact S1
      iexact R1
    isplitl [C2 S2 R2]
    · isplitl [C2]; · iexact C2
      isplitl [S2]; · iexact S2
      iexact R2
    isplitl [C3 S3 R3]
    · isplitl [C3]; · iexact C3
      isplitl [S3]; · iexact S3
      iexact R3
    iexact T
/-- A slot with a block in it is free. -/
theorem free_of_holds (n : ℕ) : holds c W n ⊢ free c W (Ring.sl 4 n) := by
  unfold holds free
  iintro ⟨C, ⟨%f, S⟩, R⟩
  isplitl [C]; · iexact C
  isplitl [S]; · iexists _; iexact S
  iexact R
end Pieces

end Cert.KernelIdeal.Bank

end
-- ==== Proof.Bank.Blocks.lean ====
/-
  What one point computes, as functions of what its buffers hold: the rows in the point's slot, and the point's three
  results over them.
-/
module

public import proofs.«01_k».proof.Proof.Bank.State
public import Idealize.ShloMosaic.Lib.ValueIdx
public import Idealize.ShloMosaic.Lib.ValueLayout
public import Idealize.ShloMosaic.Lib.VecWindow
public import Idealize.ShloMosaic.Lib.WholeRead

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## The rows in a point's slot -/

section Rows
variable (c : Dev nD) (W : BufOf (F := F) c rowsM)

/-- The row of the array that lies in row `a` of the slot read at point `n`: of the point's block; at the last point,
    whose block has 1696 rows, past them still that of block 44. -/
def rowNo (n : ℕ) (a : Fin 2048) : Fin 100000 :=
  if h : n < 48 then ⟨2048 * n + a.val, by omega⟩
  else if h' : a.val < 1696 then ⟨98304 + a.val, by omega⟩ else ⟨2048 * 44 + a.val, by omega⟩
/-- The rows in the slot read at point `n`. -/
def rowsAt (n : ℕ) : FVec F S2048x64 .f32 := fun i => W (ix2 (rowNo n (i 0)) (i 1))

omit [FloatOps F] in
/-- An entry of slot `s`, read from the bank. -/
theorem slotM_read (s : Fin 4) (g : BufOf (F := F) c bankM) (a : Fin 2048) (b : Fin 64) :
    (slotM s).view.read (Elt F) g (ix2 a b) = g (ix3 s a b) := by
  have h : (slotM s).view.read (Elt F) g (ix2 a b)
      = g ((Rect.unit (s := S4x2048x64) ![s.val, 0, 0] S1x2048x64.size (inb_slot s)).emb
          (Shape.reshapeEquiv squeezes_S1x2048x64_S2048x64.numel_eq (ix2 a b))) := rfl
  rw [h, reshapeEquiv_ix2_1ab]
  congr 1; funext d; apply Fin.ext
  match d with
  | ⟨0, _⟩ => exact (by omega : s.val + 1 * 0 = s.val)
  | ⟨1, _⟩ => exact (by omega : 0 + 1 * a.val = a.val)
  | ⟨2, _⟩ => exact (by omega : 0 + 1 * b.val = b.val)

omit [FloatOps F] in
/-- An entry of block `b`, read from the memory array. -/
theorem blkM_read (b : Fin 48) (x : Fin 2048) (y : Fin 64) :
    (blkM b).view.read (Elt F) W (ix2 x y) = W (ix2 (⟨2048 * b.val + x.val, by omega⟩ : Fin 100000) y) := by
  have h : (blkM b).view.read (Elt F) W (ix2 x y)
      = W ((Rect.unit (s := S100000x64) ![2048 * b.val, 0] S2048x64.size (inb_blk b)).emb (ix2 x y)) := rfl
  rw [h]
  congr 1; funext d; apply Fin.ext
  match d with
  | ⟨0, _⟩ => exact (by omega : 2048 * b.val + 1 * x.val = 2048 * b.val + x.val)
  | ⟨1, _⟩ => exact (by omega : 0 + 1 * y.val = y.val)

omit [FloatOps F] in
/-- An entry of the short last block, read from the memory array. -/
theorem tailBlkM_read (x : Fin 1696) (y : Fin 64) :
    tailBlkM.view.read (Elt F) W (ix2 x y) = W (ix2 (⟨98304 + x.val, by omega⟩ : Fin 100000) y) := by
  have h : tailBlkM.view.read (Elt F) W (ix2 x y)
      = W ((Rect.unit (s := S100000x64) ![98304, 0] S1696x64.size inb_tailRows).emb (ix2 x y)) := rfl
  rw [h]
  congr 1; funext d; apply Fin.ext
  match d with
  | ⟨0, _⟩ => exact (by omega : 98304 + 1 * x.val = 98304 + x.val)
  | ⟨1, _⟩ => exact (by omega : 0 + 1 * y.val = y.val)

omit [FloatOps F] in
/-- The short block's place holds row `a` where slot 0 holds row `a`. -/
theorem tailM_emb (a : Fin 1696) (b : Fin 64) : tailM.view.emb (ix2 a b) = (ix3 (0 : Fin 4) (⟨a.val, by omega⟩ : Fin 2048) b : S4x2048x64.Idx) := by
  have h : tailM.view.emb (ix2 a b) = (Rect.unit (s := S4x2048x64) ![0, 0, 0] S1x1696x64.size inb_tail).emb
          (Shape.reshapeEquiv squeezes_S1x1696x64_S1696x64.numel_eq (ix2 a b)) := rfl
  rw [h, reshapeEquiv_ix2_1ab]
  funext d; apply Fin.ext
  match d with
  | ⟨0, _⟩ => exact (by omega : 0 + 1 * 0 = 0)
  | ⟨1, _⟩ => exact (by omega : 0 + 1 * a.val = a.val)
  | ⟨2, _⟩ => exact (by omega : 0 + 1 * b.val = b.val)

omit [FloatOps F] in
/-- A slot a whole block landed in reads that block. -/
theorem landed_read (s : Fin 4) (n : ℕ) (hn : n < 48) (f : BufOf (F := F) c (slotM s)) :
    (slotM s).view.read (Elt F) (landed c W s (Ring.bk 48 n) f) = rowsAt c W n := by
  unfold landed
  rw [View.read_writes_whole]
  funext i
  rw [eq_ix2 i]
  refine (blkM_read c W (Ring.bk 48 n) (i 0) (i 1)).trans ?_
  have hb : (Ring.bk 48 n).val = n := Ring.bk_val hn
  simp only [rowsAt, rowNo, dif_pos hn, hb]

omit [FloatOps F] in
/-- A buffer written through a view holds what was written where the view lies, -/
theorem written_at {sp : Space} {S : Shape} {e : EltTy} (v : View sig .tc sp S e) (g : v.ty.Contents (Elt F)) (x : S.Idx → Elt F e) (j : S.Idx) :
    v.writes (Elt F) g [⟨Rect.whole S, x⟩] (v.emb j) = _root_.cast (congrArg (Elt F) v.elt_eq.symm) (x j) := by
  rw [← View.write_univ_eq_writes_whole v g [] x, View.write_emb_of_mem _ _ (Finset.mem_univ _)]
omit [FloatOps F] in
/-- and what it held elsewhere. -/
theorem unwritten_at {sp : Space} {S : Shape} {e : EltTy} (v : View sig .tc sp S e) (g : v.ty.Contents (Elt F)) (x : S.Idx → Elt F e) (i : v.ty.Idx)
    (hi : i ∉ v.set) : v.writes (Elt F) g [⟨Rect.whole S, x⟩] i = g i := by
  rw [← View.write_univ_eq_writes_whole v g [] x, View.write_of_not_mem _ _ _ fun h => hi (View.setOn_subset_set v _ h), View.writes_nil]

omit [FloatOps F] in
/-- An entry of slot 0 under the short block: its rows first, what the slot held after them. -/
theorem over_read (f : BufOf (F := F) c (slotM 0)) (a : Fin 2048) (b : Fin 64) :
    (slotM 0).view.read (Elt F) (tailLanded c W (landed c W 0 44 f)) (ix2 a b) = rowsAt c W 48 (ix2 a b) := by
  refine (slotM_read c 0 (tailLanded c W (landed c W 0 44 f)) a b).trans ?_
  by_cases h : a.val < 1696
  · have e := written_at tailM.view (landed c W 0 44 f) (ReadAs.same.apply (tailBlkM.view.read (Elt F) W)) (ix2 (⟨a.val, h⟩ : Fin 1696) b)
    refine (congrArg (tailLanded c W (landed c W 0 44 f)) (tailM_emb ⟨a.val, h⟩ b)).symm.trans (e.trans ?_)
    refine (tailBlkM_read c W ⟨a.val, h⟩ b).trans ?_
    unfold rowsAt rowNo
    rw [dif_neg (by decide), dif_pos h]
  · refine (unwritten_at tailM.view (landed c W 0 44 f) (ReadAs.same.apply (tailBlkM.view.read (Elt F) W)) (ix3 (0 : Fin 4) a b : S4x2048x64.Idx) ?_).trans ?_
    · intro hm
      have hm := (congrArg (fun S => (ix3 (0 : Fin 4) a b : S4x2048x64.Idx) ∈ S) tailM_set).mp hm
      have := (Rect.mem_set_unit.1 hm 1).2
      exact h (by simpa using this)
    · refine ((slotM_read c 0 (landed c W 0 44 f) a b).symm.trans (congrFun (landed_read c W 0 44 (by decide) f) (ix2 a b))).trans ?_
      unfold rowsAt rowNo
      rw [dif_pos (by decide), dif_neg (by decide), dif_neg h]

omit [FloatOps F] in
/-- Slot 0 with the short block landed over block 44 reads the last point's rows. -/
theorem tailLanded_read (f : BufOf (F := F) c (slotM 0)) :
    (slotM 0).view.read (Elt F) (tailLanded c W (landed c W 0 44 f)) = rowsAt c W 48 := by
  funext i
  rw [eq_ix2 i]
  exact over_read c W f (i 0) (i 1)

/-- What the body loads of its slot, with the leading axis dropped, is what the slot reads. -/
theorem pay4_load {off : Fin 3 → ℕ} {s : Fin 4} (h : off = ![s.val, 0, 0]) (inb) (g : BufOf (F := F) c bankM) :
    k0_pay4 (F := F) (bankM.view.readAt (Elt F) (Rect.unit (s := S4x2048x64) off S1x2048x64.size inb).toLoadRect g) = (slotM s).view.read (Elt F) g := by
  subst h
  rfl
/-- What the body loads of a slot that a whole block landed in. -/
theorem landed_load {off : Fin 3 → ℕ} {s : Fin 4} (h : off = ![s.val, 0, 0]) (inb) (n : ℕ) (hn : n < 48) :
    k0_pay4 (F := F) (bankM.view.readAt (Elt F) (Rect.unit (s := S4x2048x64) off S1x2048x64.size inb).toLoadRect
      ((slotM s).view.writes (Elt F) ((slotM s).view.junk (Val := Elt F)) [⟨Rect.whole S2048x64, ReadAs.same.apply ((blkM (Ring.bk 48 n)).view.read (Elt F) W)⟩])) = rowsAt c W n :=
  (pay4_load c h inb _).trans (landed_read c W s n hn _)
end Rows

/-! ## The point's results -/

/-- The one parameter the kernel reads: its temperature, from the row of two. -/
def temp (x2 : Vec F S1x2 .f32) : Vec F S1x1 .f32 := fun _ => x2 (ix2 (0 : Fin 1) (0 : Fin 2))
/-- The products of the rows with the first features, scaled by the reciprocal temperature. -/
def outF (x0 : Vec F S1024x64 .f32) (x2 : Vec F S1x2 .f32) (r : FVec F S2048x64 .f32) : FVec F S2048x1024 .f32 :=
  mulf (matmul dot_S2048x64_S1024x64_S2048x1024_1_1_0_0_n_n none r x0 (constant S2048x1024 .f32 0x00000000#32))
    (broadcast S2048x1024 (k0_pay3 (temp x2)))
/-- The products with the second features, scaled by the reciprocal temperature squared. -/
def outT (x1 : Vec F S1024x64 .f32) (x2 : Vec F S1x2 .f32) (r : FVec F S2048x64 .f32) : FVec F S2048x1024 .f32 :=
  k0_pay1 (k0_pay3 (temp x2)) x1 r

/-- The load of the temperature. -/
theorem temp_load {arg3 : Memref sig .tc .vmem S1x2 .f32} (harg3 : arg3.IsWhole) (x2 : Vec F S1x2 .f32) :
    arg3.view.readAt (Elt F) (Rect.unit (s := S1x2) ![0, 0] S1x1.size inb_S1x2_S1x1_0_0).toLoadRect (harg3.unread x2) = temp x2 := by
  funext i
  rw [harg3.readAt_unread]
  unfold temp
  congr 1; funext d; apply Fin.ext
  have h0 := idx2_lt0 (n0 := 1) (n1 := 1) i
  have h1 := idx2_lt1 (n0 := 1) (n1 := 1) i
  match d with
  | ⟨0, _⟩ => exact (by omega : 0 + 1 * (i 0).val = 0)
  | ⟨1, _⟩ => exact (by omega : 0 + 1 * (i 1).val = 0)
/-- The load of a whole feature matrix. -/
theorem features_load {arg : Memref sig .tc .vmem S1024x64 .f32} (harg : arg.IsWhole) (x : Vec F S1024x64 .f32) :
    arg.view.readAt (Elt F) (Rect.unit (s := S1024x64) ![0, 0] S1024x64.size inb_S1024x64_S1024x64_0_0).toLoadRect (harg.unread x) = x := by
  rw [View.readAt_full, harg.read_unread]

/-- What the body stores in the first big result's staging buffer, -/
theorem stored_outT {arg2 : Memref sig .tc .vmem S1024x64 .f32} (harg2 : arg2.IsWhole) {arg3 : Memref sig .tc .vmem S1x2 .f32} (harg3 : arg3.IsWhole)
    (arg5 : Memref sig .tc .vmem S2048x1024 .f32) (f : arg5.view.ty.Contents (Elt F)) (x1 : Vec F S1024x64 .f32) (x2 : Vec F S1x2 .f32)
    {v24 : Vec F S1x2048x64 .f32} {r : FVec F S2048x64 .f32} (h : k0_pay4 v24 = r) :
    arg5.view.read (Elt F) (arg5.view.writes (Elt F) f [⟨Rect.unit (s := S2048x1024) ![0, 0] ![2048, 1024] inb_S2048x1024_S2048x1024_0_0,
      k0_pay1 (k0_pay3 (arg3.view.readAt (Elt F) (Rect.unit (s := S1x2) ![0, 0] S1x1.size inb_S1x2_S1x1_0_0).toLoadRect (harg3.unread x2)))
        (arg2.view.readAt (Elt F) (Rect.unit (s := S1024x64) ![0, 0] S1024x64.size inb_S1024x64_S1024x64_0_0).toLoadRect (harg2.unread x1)) (k0_pay4 v24)⟩])
      = outT x1 x2 r := by
  refine (View.read_writes_full arg5.view f (off := ![0, 0]) inb_S2048x1024_S2048x1024_0_0 _ []).trans ?_
  rw [temp_load, features_load, h]; rfl
/-- and in the second's. -/
theorem stored_outF {arg1 : Memref sig .tc .vmem S1024x64 .f32} (harg1 : arg1.IsWhole) {arg3 : Memref sig .tc .vmem S1x2 .f32} (harg3 : arg3.IsWhole)
    (arg6 : Memref sig .tc .vmem S2048x1024 .f32) (f : arg6.view.ty.Contents (Elt F)) (x0 : Vec F S1024x64 .f32) (x2 : Vec F S1x2 .f32)
    {v24 : Vec F S1x2048x64 .f32} {r : FVec F S2048x64 .f32} (h : k0_pay4 v24 = r) :
    arg6.view.read (Elt F) (arg6.view.writes (Elt F) f [⟨Rect.unit (s := S2048x1024) ![0, 0] ![2048, 1024] inb_S2048x1024_S2048x1024_0_0,
      k0_pay5 (arg3.view.readAt (Elt F) (Rect.unit (s := S1x2) ![0, 0] S1x1.size inb_S1x2_S1x1_0_0).toLoadRect (harg3.unread x2))
        (arg1.view.readAt (Elt F) (Rect.unit (s := S1024x64) ![0, 0] S1024x64.size inb_S1024x64_S1024x64_0_0).toLoadRect (harg1.unread x0)) v24⟩])
      = outF x0 x2 r := by
  refine (View.read_writes_full arg6.view f (off := ![0, 0]) inb_S2048x1024_S2048x1024_0_0 _ []).trans ?_
  subst h
  rw [temp_load, features_load]; rfl
/-- What the first point stores in the third result's. -/
theorem stored_sim {arg1 : Memref sig .tc .vmem S1024x64 .f32} (harg1 : arg1.IsWhole) {arg2 : Memref sig .tc .vmem S1024x64 .f32} (harg2 : arg2.IsWhole)
    (arg7 : Memref sig .tc .vmem S1024x1 .f32) (f : arg7.view.ty.Contents (Elt F)) (x0 x1 : Vec F S1024x64 .f32) :
    arg7.view.read (Elt F) (arg7.view.writes (Elt F) f [⟨Rect.unit (s := S1024x1) ![0, 0] ![1024, 1] inb_S1024x1_S1024x1_0_0,
      k0_pay2 (arg1.view.readAt (Elt F) (Rect.unit (s := S1024x64) ![0, 0] S1024x64.size inb_S1024x64_S1024x64_0_0).toLoadRect (harg1.unread x0))
        (arg2.view.readAt (Elt F) (Rect.unit (s := S1024x64) ![0, 0] S1024x64.size inb_S1024x64_S1024x64_0_0).toLoadRect (harg2.unread x1))⟩])
      = k0_pay2 x0 x1 := by
  refine (View.read_writes_full arg7.view f (off := ![0, 0]) inb_S1024x1_S1024x1_0_0 _ []).trans ?_
  rw [features_load, features_load]

end Cert.KernelIdeal.Bank

end
-- ==== Proof.Bank.Steps.lean ====
/-
  How the bank before a point comes apart into what the point's run takes, and how what the run leaves is the bank
  before the next point.
-/
module

public import proofs.«01_k».proof.Proof.Bank.Blocks

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : BufOf (F := F) c rowsM)

/-- A later block is whole, short, or past the end. -/
theorem pend_whole {n : ℕ} (h : n < 48) : (pend c W n : sProp 𝕄) = coming c W n := if_pos h
theorem pend_tail {n : ℕ} (h : n = 48) : (pend c W n : sProp 𝕄) = tailComing c W := by
  unfold pend; rw [if_neg (by omega), if_pos h]
theorem pend_past {n : ℕ} (h : 48 < n) : (pend c W n : sProp 𝕄) = holds c W (n - 4) := by
  unfold pend; rw [if_neg (by omega), if_neg (by omega)]
/-- While whole blocks are still to come: the last block read, and the three in flight. -/
theorem bank_fill {k : ℕ} (h : 1 ≤ k) (h' : k ≤ 45) :
    (bank c W k : sProp 𝕄) = iprop(holds c W (k - 1) ∗ pend c W k ∗ pend c W (k + 1) ∗ pend c W (k + 2) ∗ tailCellP c) := by
  unfold bank; rw [if_neg (by omega), if_pos h']
/-- When no whole block is to come any more. -/
theorem bank_drain {k : ℕ} (h : 46 ≤ k) (h' : k ≤ 48) :
    (bank c W k : sProp 𝕄) = iprop(holds c W (k - 1) ∗ pend c W k ∗ pend c W (k + 1) ∗ pend c W (k + 2)) := by
  unfold bank; rw [if_neg (by omega), if_neg (by omega), if_pos h']

/-! ## The first point -/

theorem first_before {k : ℕ} (h : k = 0) :
    (bank c W k : sProp 𝕄) ⊢ iprop((free c W (Ring.sl 4 k) ∗ free c W (Ring.sl 4 (k + 1)) ∗ free c W (Ring.sl 4 (k + 2)) ∗ free c W (Ring.sl 4 (k + 3))) ∗ tailCellP c) := by
  subst h
  unfold bank; rw [if_pos rfl]
  iintro ⟨A, B, C, D, T⟩
  isplitl [A B C D]
  · isplitl [A]; · iexact A
    isplitl [B]; · iexact B
    isplitl [C]; · iexact C
    iexact D
  iexact T
theorem first_after {k : ℕ} (h : k = 0) :
    (iprop((holds c W k ∗ coming c W (k + 1) ∗ coming c W (k + 2) ∗ coming c W (k + 3)) ∗ tailCellP c) : sProp 𝕄) ⊢ bank c W (k + 1) := by
  rw [bank_fill c W (by omega) (by omega), pend_whole c W (by omega), pend_whole c W (by omega), pend_whole c W (by omega), Nat.add_sub_cancel]
  iintro ⟨⟨A, B, C, D⟩, T⟩
  isplitl [A]; · iexact A
  isplitl [B]; · iexact B
  isplitl [C]; · iexact C
  isplitl [D]; · iexact D
  iexact T

/-! ## A point that starts a whole block -/

theorem whole_before {k : ℕ} (h : 1 ≤ k) (h' : k < 45) :
    (bank c W k : sProp 𝕄) ⊢ iprop((coming c W k ∗ free c W (Ring.sl 4 (k + 3))) ∗ coming c W (k + 1) ∗ coming c W (k + 2) ∗ tailCellP c) := by
  have hs : Ring.sl 4 (k - 1) = Ring.sl 4 (k + 3) := by
    apply Fin.ext; show (k - 1) % 4 = (k + 3) % 4; omega
  rw [bank_fill c W h (by omega), pend_whole c W (by omega), pend_whole c W (by omega), pend_whole c W (by omega), ← hs]
  iintro ⟨A, B, C, D, T⟩
  isplitl [A B]
  · isplitl [B]; · iexact B
    iapply (free_of_holds c W (k - 1)); iexact A
  isplitl [C]; · iexact C
  isplitl [D]; · iexact D
  iexact T
theorem whole_after {k : ℕ} (h : 1 ≤ k) (h' : k < 45) :
    (iprop((holds c W k ∗ coming c W (k + 3)) ∗ coming c W (k + 1) ∗ coming c W (k + 2) ∗ tailCellP c) : sProp 𝕄) ⊢ bank c W (k + 1) := by
  rw [bank_fill c W (by omega) (by omega), pend_whole c W (by omega), pend_whole c W (by omega), pend_whole c W (by omega), Nat.add_sub_cancel]
  iintro ⟨⟨A, B⟩, C, D, T⟩
  isplitl [A]; · iexact A
  isplitl [C]; · iexact C
  isplitl [D]; · iexact D
  isplitl [B]; · iexact B
  iexact T

/-! ## The point that starts the short block -/

theorem tailReady_of_holds : (iprop(holds c W 44 ∗ tailCellP c) : sProp 𝕄) ⊢ tailReady c W := by
  rw [show (holds c W 44 : sProp 𝕄) = iprop(cellP c 0 ∗ (∃ f, slotP c 0 (landed c W 0 44 f)) ∗ allP c W 0) from rfl]
  unfold tailReady
  iintro ⟨⟨C, ⟨%f, S⟩, R⟩, T⟩
  ihave S := (slotP_splitTail c (landed c W 0 44 f)).1 $$ S
  icases S with ⟨S, S'⟩
  ihave R := (allP_splitTail c W).1 $$ R
  icases R with ⟨R, R'⟩
  isplitl [C]; · iexact C
  isplitl [S S']
  · iexists f; isplitl [S]; · iexact S
    iexact S'
  isplitl [R]; · iexact R
  isplitl [R']; · iexact R'
  iexact T
/-- Point 45 starts the copy of the short block. -/
theorem short_before {k : ℕ} (h : k = 45) :
    (bank c W k : sProp 𝕄) ⊢ iprop((coming c W k ∗ tailReady c W) ∗ coming c W (k + 1) ∗ coming c W (k + 2)) := by
  rw [bank_fill c W (by omega) (by omega), pend_whole c W (by omega), pend_whole c W (by omega), pend_whole c W (by omega), show k - 1 = 44 by omega]
  iintro ⟨A, B, C, D, T⟩
  isplitl [A B T]
  · isplitl [B]; · iexact B
    iapply (tailReady_of_holds c W); isplitl [A]; · iexact A
    iexact T
  isplitl [C]; · iexact C
  iexact D
theorem short_after {k : ℕ} (h : k = 45) :
    (iprop((holds c W k ∗ tailComing c W) ∗ coming c W (k + 1) ∗ coming c W (k + 2)) : sProp 𝕄) ⊢ bank c W (k + 1) := by
  rw [bank_drain c W (by omega) (by omega), pend_whole c W (by omega), pend_whole c W (by omega), pend_tail c W (by omega), Nat.add_sub_cancel]
  iintro ⟨⟨A, B⟩, C, D⟩
  isplitl [A]; · iexact A
  isplitl [C]; · iexact C
  isplitl [D]; · iexact D
  iexact B

/-! ## A point that starts nothing -/

theorem none_before {k : ℕ} (h : 46 ≤ k) (h' : k < 48) :
    (bank c W k : sProp 𝕄) ⊢ iprop(coming c W k ∗ holds c W (k - 1) ∗ pend c W (k + 1) ∗ pend c W (k + 2)) := by
  rw [bank_drain c W h (by omega), pend_whole c W (n := k) (by omega)]
  iintro ⟨A, B, C, D⟩
  isplitl [B]; · iexact B
  isplitl [A]; · iexact A
  isplitl [C]; · iexact C
  iexact D
theorem none_after {k : ℕ} (h : 46 ≤ k) (h' : k < 48) :
    (iprop(holds c W k ∗ holds c W (k - 1) ∗ pend c W (k + 1) ∗ pend c W (k + 2)) : sProp 𝕄) ⊢ bank c W (k + 1) := by
  rw [bank_drain c W (by omega) (by omega), pend_past c W (n := k + 1 + 2) (by omega), Nat.add_sub_cancel, show k + 1 + 2 - 4 = k - 1 by omega]
  iintro ⟨A, B, C, D⟩
  isplitl [A]; · iexact A
  isplitl [C]; · iexact C
  isplitl [D]; · iexact D
  iexact B

/-! ## The last point -/

theorem last_before {k : ℕ} (h : k = 48) :
    (bank c W k : sProp 𝕄) ⊢ iprop(tailComing c W ∗ holds c W 45 ∗ holds c W 46 ∗ holds c W 47) := by
  subst h
  rw [bank_drain c W (by omega) (by omega), pend_tail c W rfl, pend_past c W (by omega), pend_past c W (by omega)]
  iintro ⟨A, B, C, D⟩
  isplitl [B]; · iexact B
  isplitl [C]; · iexact C
  isplitl [D]; · iexact D
  iexact A
theorem last_after {k : ℕ} (h : k = 48) :
    (iprop((free c W 0 ∗ tailCellP c) ∗ holds c W 45 ∗ holds c W 46 ∗ holds c W 47) : sProp 𝕄) ⊢ bank c W (k + 1) := by
  subst h
  unfold bank; rw [if_neg (by omega), if_neg (by omega), if_neg (by omega)]
  iintro ⟨⟨A, T⟩, B, C, D⟩
  isplitl [A]; · iexact A
  isplitl [B]; · iapply (free_of_holds c W 45); iexact B
  isplitl [C]; · iapply (free_of_holds c W 46); iexact C
  isplitl [D]; · iapply (free_of_holds c W 47); iexact D
  iexact T

end Cert.KernelIdeal.Bank

end
-- ==== Proof.Bank.RunA.lean ====
/-
  The body's run at the first point.
-/
module

public import proofs.«01_k».proof.Proof.Bank.Blocks

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- From four free slots to the first block in its slot, the next three under way and the third result stored. -/
theorem runA (c : Dev nD) (t : Fin cfg0.N) (arg1 : Memref sig .tc .vmem S1024x64 .f32) (harg1 : arg1.IsWhole) (arg2 : Memref sig .tc .vmem S1024x64 .f32) (harg2 : arg2.IsWhole)
    (arg3 : Memref sig .tc .vmem S1x2 .f32) (harg3 : arg3.IsWhole) (arg5 : Memref sig .tc .vmem S2048x1024 .f32) (harg5 : arg5.IsWhole)
    (arg6 : Memref sig .tc .vmem S2048x1024 .f32) (harg6 : arg6.IsWhole) (arg7 : Memref sig .tc .vmem S1024x1 .f32) (harg7 : arg7.IsWhole)
    (hc1 : isFirst (grid0.coords t)) (hc2 : startsWhole (grid0.coords t)) (hc3 : ¬startsTail (grid0.coords t)) (hc4 : waitsWhole (grid0.coords t)) (hc5 : ¬waitsTail (grid0.coords t)) (hc6 : storesSim (grid0.coords t))
    (x0 : Vec F S1024x64 .f32) (x1 : Vec F S1024x64 .f32) (x2 : Vec F S1x2 .f32) (W : BufOf (F := F) c rowsM) (O : Waits sig Unit) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ (∃ d, owns (c : Thread nD τ) arg6 fullShare d) ∗ (∃ d, owns (c : Thread nD τ) arg7 fullShare d)
        ∗ free c W (Ring.sl 4 t.val) ∗ free c W (Ring.sl 4 (t.val + 1)) ∗ free c W (Ring.sl 4 (t.val + 2)) ∗ free c W (Ring.sl 4 (t.val + 3)) ∗ owes (c : Thread nD τ) 0 O
        ∗ (iprop(owns (c : Thread nD τ) arg1 fullShare x0 ∗ owns (c : Thread nD τ) arg2 fullShare x1 ∗ owns (c : Thread nD τ) arg3 fullShare x2
            ∗ owns (c : Thread nD τ) arg5 fullShare (outT x1 x2 (rowsAt c W t.val)) ∗ owns (c : Thread nD τ) arg6 fullShare (outF x0 x2 (rowsAt c W t.val))
            ∗ owns (c : Thread nD τ) arg7 fullShare (k0_pay2 x0 x1) ∗ holds c W t.val ∗ coming c W (t.val + 1) ∗ coming c W (t.val + 2) ∗ coming c W (t.val + 3) ∗ (∃ O', owes (c : Thread nD τ) 0 O')) -∗ K ⟨⟩))
      ⊢ wp frame (wpE (defs₀ (F := F)) Variants.none c none) Set.univ
          (cc0__body (grid0.coords t) arg1 harg1 arg2 harg2 arg3 harg3 (Memref.whole main_arg3) (Memref.isWhole_whole _) arg5 harg5 arg6 harg6 arg7 harg7
            bankM (Memref.isWhole_whole _) cc0_scratch1 cc0_scratch2) K := by
  haveI : Fact (isFirst (grid0.coords t)) := ⟨hc1⟩
  haveI : Fact (startsWhole (grid0.coords t)) := ⟨hc2⟩
  haveI : Fact (waitsWhole (grid0.coords t)) := ⟨hc4⟩
  have hn : t.val < 48 := (waitsWhole_iff t).1 hc4
  simp only [cc0__body_eq_skeleton]; unfold cc0__body_skel
  simp only [k0_part1_eq_skeleton]
  unfold owns coming free
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨Hc0, ⟨%g0, Hs0⟩, Hall0⟩, ⟨Hc1, ⟨%g1, Hs1⟩, Hall1⟩, ⟨Hc2, ⟨%g2, Hs2⟩, Hall2⟩, ⟨Hc3, ⟨%g3, Hs3⟩, Hall3⟩, HW, Hk⟩
  ihave Hall0 := (allP_split c W (Ring.sl 4 t.val) (Ring.bk 48 t.val)).1 $$ Hall0
  icases Hall0 with ⟨Hb0, Hoff0⟩
  ihave Hall1 := (allP_split c W (Ring.sl 4 (t.val + 1)) (Ring.bk 48 (t.val + 1))).1 $$ Hall1
  icases Hall1 with ⟨Hb1, Hoff1⟩
  ihave Hall2 := (allP_split c W (Ring.sl 4 (t.val + 2)) (Ring.bk 48 (t.val + 2))).1 $$ Hall2
  icases Hall2 with ⟨Hb2, Hoff2⟩
  ihave Hall3 := (allP_split c W (Ring.sl 4 (t.val + 3)) (Ring.bk 48 (t.val + 3))).1 $$ Hall3
  icases Hall3 with ⟨Hb3, Hoff3⟩
  obtain rfl := harg1.eq_unread hf0; obtain rfl := harg2.eq_unread hf1; obtain rfl := harg3.eq_unread hf2
  sl_exec (disch := first | sl_exact hc1 | sl_exact hc2 | sl_exact hc3 | sl_exact hc4 | sl_exact hc5 | sl_exact hc6)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact stored_outT harg2 harg3 arg5 f3 x1 x2 (landed_load c W (off_read t) (k0_off11_inb (grid0.coords t)) t.val hn)
                  iexact H3
  isplitl [H4]; · iexists _; isplitr; · ipureintro; exact stored_outF harg1 harg3 arg6 f4 x0 x2 (landed_load c W (off_read t) (k0_off11_inb (grid0.coords t)) t.val hn)
                  iexact H4
  isplitl [H5]; · iexists _; isplitr; · ipureintro; exact stored_sim harg1 harg2 arg7 f5 x0 x1
                  iexact H5
  isplitl [Hc0 Hs0 Hb0 Hoff0]
  · unfold holds
    isplitl [Hc0]; · iexact Hc0
    isplitl [Hs0]; · iexists _; iexact Hs0
    iapply (allP_split c W (Ring.sl 4 t.val) (Ring.bk 48 t.val)).2
    isplitl [Hb0]; · iexact Hb0
    iexact Hoff0
  isplitl [Hc1 Hoff1]
  · isplitl [Hc1]; · iexists _; iexact Hc1
    iexact Hoff1
  isplitl [Hc2 Hoff2]
  · isplitl [Hc2]; · iexists _; iexact Hc2
    iexact Hoff2
  isplitl [Hc3 Hoff3]
  · isplitl [Hc3]; · iexists _; iexact Hc3
    iexact Hoff3
  iexists _; iexact HW

end Cert.KernelIdeal.Bank

end
-- ==== Proof.Bank.RunB.lean ====
/-
  The body's run at a point that starts a whole block.
-/
module

public import proofs.«01_k».proof.Proof.Bank.Blocks

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- From the point's block under way and the slot three ahead free, to the block in its slot and the slot three ahead filling. -/
theorem runB (c : Dev nD) (t : Fin cfg0.N) (arg1 : Memref sig .tc .vmem S1024x64 .f32) (harg1 : arg1.IsWhole) (arg2 : Memref sig .tc .vmem S1024x64 .f32) (harg2 : arg2.IsWhole)
    (arg3 : Memref sig .tc .vmem S1x2 .f32) (harg3 : arg3.IsWhole) (arg5 : Memref sig .tc .vmem S2048x1024 .f32) (harg5 : arg5.IsWhole)
    (arg6 : Memref sig .tc .vmem S2048x1024 .f32) (harg6 : arg6.IsWhole) (arg7 : Memref sig .tc .vmem S1024x1 .f32) (harg7 : arg7.IsWhole)
    (hc1 : ¬isFirst (grid0.coords t)) (hc2 : startsWhole (grid0.coords t)) (hc3 : ¬startsTail (grid0.coords t)) (hc4 : waitsWhole (grid0.coords t)) (hc5 : ¬waitsTail (grid0.coords t)) (hc6 : ¬storesSim (grid0.coords t))
    (x0 : Vec F S1024x64 .f32) (x1 : Vec F S1024x64 .f32) (x2 : Vec F S1x2 .f32) (x5 : Vec F S1024x1 .f32) (W : BufOf (F := F) c rowsM) (O : Waits sig Unit) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ (∃ d, owns (c : Thread nD τ) arg6 fullShare d) ∗ owns (c : Thread nD τ) arg7 fullShare x5
        ∗ coming c W t.val ∗ free c W (Ring.sl 4 (t.val + 3)) ∗ owes (c : Thread nD τ) 0 O
        ∗ (iprop(owns (c : Thread nD τ) arg1 fullShare x0 ∗ owns (c : Thread nD τ) arg2 fullShare x1 ∗ owns (c : Thread nD τ) arg3 fullShare x2
            ∗ owns (c : Thread nD τ) arg5 fullShare (outT x1 x2 (rowsAt c W t.val)) ∗ owns (c : Thread nD τ) arg6 fullShare (outF x0 x2 (rowsAt c W t.val))
            ∗ owns (c : Thread nD τ) arg7 fullShare x5 ∗ holds c W t.val ∗ coming c W (t.val + 3) ∗ (∃ O', owes (c : Thread nD τ) 0 O')) -∗ K ⟨⟩))
      ⊢ wp frame (wpE (defs₀ (F := F)) Variants.none c none) Set.univ
          (cc0__body (grid0.coords t) arg1 harg1 arg2 harg2 arg3 harg3 (Memref.whole main_arg3) (Memref.isWhole_whole _) arg5 harg5 arg6 harg6 arg7 harg7
            bankM (Memref.isWhole_whole _) cc0_scratch1 cc0_scratch2) K := by
  haveI : Fact (startsWhole (grid0.coords t)) := ⟨hc2⟩
  haveI : Fact (waitsWhole (grid0.coords t)) := ⟨hc4⟩
  have hn : t.val < 48 := (waitsWhole_iff t).1 hc4
  simp only [cc0__body_eq_skeleton]; unfold cc0__body_skel
  simp only [k0_part1_eq_skeleton]
  unfold owns free coming
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨⟨%g, Hf⟩, Hoff⟩, ⟨Hc, ⟨%g', Hs⟩, Hall⟩, HW, Hk⟩
  ihave Hall := (allP_split c W (Ring.sl 4 (t.val + 3)) (Ring.bk 48 (t.val + 3))).1 $$ Hall
  icases Hall with ⟨Hb, Hoff'⟩
  obtain rfl := harg1.eq_unread hf0; obtain rfl := harg2.eq_unread hf1; obtain rfl := harg3.eq_unread hf2
  sl_exec (disch := first | sl_exact hc1 | sl_exact hc2 | sl_exact hc3 | sl_exact hc4 | sl_exact hc5 | sl_exact hc6)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact stored_outT harg2 harg3 arg5 f3 x1 x2 (landed_load c W (off_read t) (k0_off11_inb (grid0.coords t)) t.val hn)
                  iexact H3
  isplitl [H4]; · iexists _; isplitr; · ipureintro; exact stored_outF harg1 harg3 arg6 f4 x0 x2 (landed_load c W (off_read t) (k0_off11_inb (grid0.coords t)) t.val hn)
                  iexact H4
  isplitl [H5]; · iexists f5; isplitr; · ipureintro; exact hf5
                  iexact H5
  isplitl [Hf Hf_dst Hf_src Hoff]
  · unfold holds
    isplitl [Hf]; · iexact Hf
    isplitl [Hf_dst]; · iexists _; iexact Hf_dst
    iapply (allP_split c W (Ring.sl 4 t.val) (Ring.bk 48 t.val)).2
    isplitl [Hf_src]; · iexact Hf_src
    iexact Hoff
  isplitl [Hc Hoff']
  · isplitl [Hc]; · iexists _; iexact Hc
    iexact Hoff'
  iexists _; iexact HW

end Cert.KernelIdeal.Bank

end
-- ==== Proof.Bank.RunC.lean ====
/-
  The body's run at the point that starts the short last block.
-/
module

public import proofs.«01_k».proof.Proof.Bank.Blocks

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- From the point's block under way and slot 0 ready for the short block, to the block in its slot and the short block under way. -/
theorem runC (c : Dev nD) (t : Fin cfg0.N) (arg1 : Memref sig .tc .vmem S1024x64 .f32) (harg1 : arg1.IsWhole) (arg2 : Memref sig .tc .vmem S1024x64 .f32) (harg2 : arg2.IsWhole)
    (arg3 : Memref sig .tc .vmem S1x2 .f32) (harg3 : arg3.IsWhole) (arg5 : Memref sig .tc .vmem S2048x1024 .f32) (harg5 : arg5.IsWhole)
    (arg6 : Memref sig .tc .vmem S2048x1024 .f32) (harg6 : arg6.IsWhole) (arg7 : Memref sig .tc .vmem S1024x1 .f32) (harg7 : arg7.IsWhole)
    (hc1 : ¬isFirst (grid0.coords t)) (hc2 : ¬startsWhole (grid0.coords t)) (hc3 : startsTail (grid0.coords t)) (hc4 : waitsWhole (grid0.coords t)) (hc5 : ¬waitsTail (grid0.coords t)) (hc6 : ¬storesSim (grid0.coords t))
    (x0 : Vec F S1024x64 .f32) (x1 : Vec F S1024x64 .f32) (x2 : Vec F S1x2 .f32) (x5 : Vec F S1024x1 .f32) (W : BufOf (F := F) c rowsM) (O : Waits sig Unit) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ (∃ d, owns (c : Thread nD τ) arg6 fullShare d) ∗ owns (c : Thread nD τ) arg7 fullShare x5
        ∗ coming c W t.val ∗ tailReady c W ∗ owes (c : Thread nD τ) 0 O
        ∗ (iprop(owns (c : Thread nD τ) arg1 fullShare x0 ∗ owns (c : Thread nD τ) arg2 fullShare x1 ∗ owns (c : Thread nD τ) arg3 fullShare x2
            ∗ owns (c : Thread nD τ) arg5 fullShare (outT x1 x2 (rowsAt c W t.val)) ∗ owns (c : Thread nD τ) arg6 fullShare (outF x0 x2 (rowsAt c W t.val))
            ∗ owns (c : Thread nD τ) arg7 fullShare x5 ∗ holds c W t.val ∗ tailComing c W ∗ (∃ O', owes (c : Thread nD τ) 0 O')) -∗ K ⟨⟩))
      ⊢ wp frame (wpE (defs₀ (F := F)) Variants.none c none) Set.univ
          (cc0__body (grid0.coords t) arg1 harg1 arg2 harg2 arg3 harg3 (Memref.whole main_arg3) (Memref.isWhole_whole _) arg5 harg5 arg6 harg6 arg7 harg7
            bankM (Memref.isWhole_whole _) cc0_scratch1 cc0_scratch2) K := by
  haveI : Fact (startsTail (grid0.coords t)) := ⟨hc3⟩
  haveI : Fact (waitsWhole (grid0.coords t)) := ⟨hc4⟩
  have hn : t.val < 48 := (waitsWhole_iff t).1 hc4
  simp only [cc0__body_eq_skeleton]; unfold cc0__body_skel
  simp only [k0_part1_eq_skeleton]
  unfold owns coming tailReady
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨⟨%g, Hf⟩, Hoff⟩, ⟨Hz, ⟨%g', Hs, Hpast⟩, Hb, Hoff', Hc⟩, HW, Hk⟩
  obtain rfl := harg1.eq_unread hf0; obtain rfl := harg2.eq_unread hf1; obtain rfl := harg3.eq_unread hf2
  sl_exec (disch := first | sl_exact hc1 | sl_exact hc2 | sl_exact hc3 | sl_exact hc4 | sl_exact hc5 | sl_exact hc6)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact stored_outT harg2 harg3 arg5 f3 x1 x2 (landed_load c W (off_read t) (k0_off11_inb (grid0.coords t)) t.val hn)
                  iexact H3
  isplitl [H4]; · iexists _; isplitr; · ipureintro; exact stored_outF harg1 harg3 arg6 f4 x0 x2 (landed_load c W (off_read t) (k0_off11_inb (grid0.coords t)) t.val hn)
                  iexact H4
  isplitl [H5]; · iexists f5; isplitr; · ipureintro; exact hf5
                  iexact H5
  isplitl [Hf Hf_dst Hf_src Hoff]
  · unfold holds
    isplitl [Hf]; · iexact Hf
    isplitl [Hf_dst]; · iexists _; iexact Hf_dst
    iapply (allP_split c W (Ring.sl 4 t.val) (Ring.bk 48 t.val)).2
    isplitl [Hf_src]; · iexact Hf_src
    iexact Hoff
  isplitl [Hc Hpast Hz Hoff']
  · unfold tailComing
    isplitl [Hc Hpast]
    · iexists g'
      isplitl [Hc]; · iexact Hc
      iexact Hpast
    isplitl [Hz]; · iexact Hz
    iexact Hoff'
  iexists _; iexact HW

end Cert.KernelIdeal.Bank

end
-- ==== Proof.Bank.RunD.lean ====
/-
  The body's run at a point that starts no copy and waits for a whole block.
-/
module

public import proofs.«01_k».proof.Proof.Bank.Blocks

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- From the point's block under way to the block in its slot. -/
theorem runD (c : Dev nD) (t : Fin cfg0.N) (arg1 : Memref sig .tc .vmem S1024x64 .f32) (harg1 : arg1.IsWhole) (arg2 : Memref sig .tc .vmem S1024x64 .f32) (harg2 : arg2.IsWhole)
    (arg3 : Memref sig .tc .vmem S1x2 .f32) (harg3 : arg3.IsWhole) (arg5 : Memref sig .tc .vmem S2048x1024 .f32) (harg5 : arg5.IsWhole)
    (arg6 : Memref sig .tc .vmem S2048x1024 .f32) (harg6 : arg6.IsWhole) (arg7 : Memref sig .tc .vmem S1024x1 .f32) (harg7 : arg7.IsWhole)
    (hc1 : ¬isFirst (grid0.coords t)) (hc2 : ¬startsWhole (grid0.coords t)) (hc3 : ¬startsTail (grid0.coords t)) (hc4 : waitsWhole (grid0.coords t)) (hc5 : ¬waitsTail (grid0.coords t)) (hc6 : ¬storesSim (grid0.coords t))
    (x0 : Vec F S1024x64 .f32) (x1 : Vec F S1024x64 .f32) (x2 : Vec F S1x2 .f32) (x5 : Vec F S1024x1 .f32) (W : BufOf (F := F) c rowsM) (O : Waits sig Unit) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ (∃ d, owns (c : Thread nD τ) arg6 fullShare d) ∗ owns (c : Thread nD τ) arg7 fullShare x5
        ∗ coming c W t.val ∗ owes (c : Thread nD τ) 0 O
        ∗ (iprop(owns (c : Thread nD τ) arg1 fullShare x0 ∗ owns (c : Thread nD τ) arg2 fullShare x1 ∗ owns (c : Thread nD τ) arg3 fullShare x2
            ∗ owns (c : Thread nD τ) arg5 fullShare (outT x1 x2 (rowsAt c W t.val)) ∗ owns (c : Thread nD τ) arg6 fullShare (outF x0 x2 (rowsAt c W t.val))
            ∗ owns (c : Thread nD τ) arg7 fullShare x5 ∗ holds c W t.val ∗ (∃ O', owes (c : Thread nD τ) 0 O')) -∗ K ⟨⟩))
      ⊢ wp frame (wpE (defs₀ (F := F)) Variants.none c none) Set.univ
          (cc0__body (grid0.coords t) arg1 harg1 arg2 harg2 arg3 harg3 (Memref.whole main_arg3) (Memref.isWhole_whole _) arg5 harg5 arg6 harg6 arg7 harg7
            bankM (Memref.isWhole_whole _) cc0_scratch1 cc0_scratch2) K := by
  haveI : Fact (waitsWhole (grid0.coords t)) := ⟨hc4⟩
  have hn : t.val < 48 := (waitsWhole_iff t).1 hc4
  simp only [cc0__body_eq_skeleton]; unfold cc0__body_skel
  simp only [k0_part1_eq_skeleton]
  unfold owns coming
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨⟨%g, Hf⟩, Hoff⟩, HW, Hk⟩
  obtain rfl := harg1.eq_unread hf0; obtain rfl := harg2.eq_unread hf1; obtain rfl := harg3.eq_unread hf2
  sl_exec (disch := first | sl_exact hc1 | sl_exact hc2 | sl_exact hc3 | sl_exact hc4 | sl_exact hc5 | sl_exact hc6)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact stored_outT harg2 harg3 arg5 f3 x1 x2 (landed_load c W (off_read t) (k0_off11_inb (grid0.coords t)) t.val hn)
                  iexact H3
  isplitl [H4]; · iexists _; isplitr; · ipureintro; exact stored_outF harg1 harg3 arg6 f4 x0 x2 (landed_load c W (off_read t) (k0_off11_inb (grid0.coords t)) t.val hn)
                  iexact H4
  isplitl [H5]; · iexists f5; isplitr; · ipureintro; exact hf5
                  iexact H5
  isplitl [Hf Hf_dst Hf_src Hoff]
  · unfold holds
    isplitl [Hf]; · iexact Hf
    isplitl [Hf_dst]; · iexists _; iexact Hf_dst
    iapply (allP_split c W (Ring.sl 4 t.val) (Ring.bk 48 t.val)).2
    isplitl [Hf_src]; · iexact Hf_src
    iexact Hoff
  iexists _; iexact HW

end Cert.KernelIdeal.Bank

end
-- ==== Proof.Bank.RunE.lean ====
/-
  The body's run at the last point.
-/
module

public import proofs.«01_k».proof.Proof.Bank.Blocks

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Slot 0 with the short block landed over block 44, as slot `s`, the last point's. -/
theorem slot0_back (c : Dev nD) (W : BufOf (F := F) c rowsM) (g : BufOf (F := F) c (slotM 0)) (s : Fin 4) (hs : s = 0) :
    (iprop(tailP c (tailLanded c W (landed c W 0 44 g)) ∗ pastTailP c (landed c W 0 44 g)) : sProp 𝕄)
      ⊢ iprop(∃ f, ⌜(slotM s).view.read (Elt F) f = rowsAt c W 48⌝ ∗ slotP c s f) := by
  subst hs
  have h : (iprop(tailP c (tailLanded c W (landed c W 0 44 g)) ∗ pastTailP c (landed c W 0 44 g)) : sProp 𝕄)
      ⊢ slotP c 0 (tailLanded c W (landed c W 0 44 g)) :=
    Eq.mpr (congrArg (fun x : sProp 𝕄 => iprop(tailP c (tailLanded c W (landed c W 0 44 g)) ∗ x) ⊢ slotP c 0 (tailLanded c W (landed c W 0 44 g)))
      (pastTailP_landed c W (landed c W 0 44 g))) (slotP_splitTail c (tailLanded c W (landed c W 0 44 g))).2
  iintro H
  ihave H := h $$ H
  iexists (tailLanded c W (landed c W 0 44 g))
  isplitr
  · ipureintro; exact tailLanded_read c W g
  iexact H
theorem slot0_any (c : Dev nD) (s : Fin 4) (hs : s = 0) : (iprop(∃ f, slotP (F := F) c s f) : sProp 𝕄) ⊢ iprop(∃ f, slotP c 0 f) := by
  subst hs; exact .rfl

set_option maxHeartbeats 1000000 in
/-- From the short block under way to slot 0 free. -/
theorem runE (c : Dev nD) (t : Fin cfg0.N) (arg1 : Memref sig .tc .vmem S1024x64 .f32) (harg1 : arg1.IsWhole) (arg2 : Memref sig .tc .vmem S1024x64 .f32) (harg2 : arg2.IsWhole)
    (arg3 : Memref sig .tc .vmem S1x2 .f32) (harg3 : arg3.IsWhole) (arg5 : Memref sig .tc .vmem S2048x1024 .f32) (harg5 : arg5.IsWhole)
    (arg6 : Memref sig .tc .vmem S2048x1024 .f32) (harg6 : arg6.IsWhole) (arg7 : Memref sig .tc .vmem S1024x1 .f32) (harg7 : arg7.IsWhole)
    (hc1 : ¬isFirst (grid0.coords t)) (hc2 : ¬startsWhole (grid0.coords t)) (hc3 : ¬startsTail (grid0.coords t)) (hc4 : ¬waitsWhole (grid0.coords t)) (hc5 : waitsTail (grid0.coords t)) (hc6 : ¬storesSim (grid0.coords t))
    (x0 : Vec F S1024x64 .f32) (x1 : Vec F S1024x64 .f32) (x2 : Vec F S1x2 .f32) (x5 : Vec F S1024x1 .f32) (W : BufOf (F := F) c rowsM) (O : Waits sig Unit) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d) ∗ (∃ d, owns (c : Thread nD τ) arg6 fullShare d) ∗ owns (c : Thread nD τ) arg7 fullShare x5
        ∗ tailComing c W ∗ owes (c : Thread nD τ) 0 O
        ∗ (iprop(owns (c : Thread nD τ) arg1 fullShare x0 ∗ owns (c : Thread nD τ) arg2 fullShare x1 ∗ owns (c : Thread nD τ) arg3 fullShare x2
            ∗ owns (c : Thread nD τ) arg5 fullShare (outT x1 x2 (rowsAt c W t.val)) ∗ owns (c : Thread nD τ) arg6 fullShare (outF x0 x2 (rowsAt c W t.val))
            ∗ owns (c : Thread nD τ) arg7 fullShare x5 ∗ free c W 0 ∗ tailCellP c ∗ (∃ O', owes (c : Thread nD τ) 0 O')) -∗ K ⟨⟩))
      ⊢ wp frame (wpE (defs₀ (F := F)) Variants.none c none) Set.univ
          (cc0__body (grid0.coords t) arg1 harg1 arg2 harg2 arg3 harg3 (Memref.whole main_arg3) (Memref.isWhole_whole _) arg5 harg5 arg6 harg6 arg7 harg7
            bankM (Memref.isWhole_whole _) cc0_scratch1 cc0_scratch2) K := by
  haveI : Fact (waitsTail (grid0.coords t)) := ⟨hc5⟩
  have hn : t.val = 48 := (waitsTail_iff t).1 hc5
  simp only [cc0__body_eq_skeleton]; unfold cc0__body_skel
  simp only [k0_part1_eq_skeleton]
  unfold owns tailComing
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨⟨%g, Hf, Hpast⟩, Hz, Hoff⟩, HW, Hk⟩
  obtain rfl := harg1.eq_unread hf0; obtain rfl := harg2.eq_unread hf1; obtain rfl := harg3.eq_unread hf2
  sl_exec (disch := first | sl_exact hc1 | sl_exact hc2 | sl_exact hc3 | sl_exact hc4 | sl_exact hc5 | sl_exact hc6)
  have hs : Ring.sl 4 t.val = 0 := by rw [hn]; rfl
  ihave Hslot := slot0_back c W g (Ring.sl 4 t.val) hs $$ [Hpast Hf_dst]
  · isplitl [Hf_dst]; · iexact Hf_dst
    iexact Hpast
  icases Hslot with ⟨%fs, %hfs, Hslot⟩
  have hfs' : (slotM (Ring.sl 4 t.val)).view.read (Elt F) fs = rowsAt c W t.val := hfs.trans (by rw [hn])
  sl_exec (disch := first | sl_exact hc1 | sl_exact hc2 | sl_exact hc3 | sl_exact hc4 | sl_exact hc5 | sl_exact hc6)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact stored_outT harg2 harg3 arg5 f3 x1 x2 ((pay4_load c (off_read t) (k0_off11_inb (grid0.coords t)) fs).trans hfs')
                  iexact H3
  isplitl [H4]; · iexists _; isplitr; · ipureintro; exact stored_outF harg1 harg3 arg6 f4 x0 x2 ((pay4_load c (off_read t) (k0_off11_inb (grid0.coords t)) fs).trans hfs')
                  iexact H4
  isplitl [H5]; · iexists f5; isplitr; · ipureintro; exact hf5
                  iexact H5
  isplitl [Hslot Hz Hoff Hf_src]
  · unfold free
    isplitl [Hz]; · iexact Hz
    isplitl [Hslot]
    · iapply slot0_any c (Ring.sl 4 t.val) hs
      iexists _; iexact Hslot
    iapply (allP_splitTail c W).2
    isplitl [Hf_src]; · iexact Hf_src
    iexact Hoff
  isplitl [Hf]; · iexact Hf
  iexists _; iexact HW

end Cert.KernelIdeal.Bank

end
-- ==== Proof.Bank.Launch.lean ====
/-
  The pipeline's proof data, the body at every point, and the run of the whole program.
-/
module

public import proofs.«01_k».proof.Proof.Bank.Steps
public import proofs.«01_k».proof.Proof.Bank.RunA
public import proofs.«01_k».proof.Proof.Bank.RunB
public import proofs.«01_k».proof.Proof.Bank.RunC
public import proofs.«01_k».proof.Proof.Bank.RunD
public import proofs.«01_k».proof.Proof.Bank.RunE
public import Idealize.ShloMosaic.Lib.Claim
public import Idealize.ShloMosaic.Lib.Pipeline.TableIdle

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The kernel's own semaphores: the four slots' and the short block's. -/
abbrev ownSem : Fin 5 → SemLoc sig := fun j => (![SemLoc.dma 8, SemLoc.dma 9, SemLoc.dma 10, SemLoc.dma 11, SemLoc.dma 12] : Fin 5 → SemLoc sig) j
/-- They are DMA semaphores that no window uses. -/
theorem ownSem_facts : Pipeline.OwnSemFacts spec0 ownSem := by decide
/-- At the launch they all read zero. -/
theorem ownSem_zero (c : Dev nD) :
    (Pipeline.ownSems0 (Ix := Unit) (Name := ℕ) (U := Pipeline.UD sig nD τ) (Lvl := ℕ) (Val := Elt F) (τ := τ) ownSem c : sProp 𝕄) = semsP c := by
  rw [Pipeline.ownSems0_eq_of_list c ownSem [0, 1, 2, 3, 4] (by decide) (by decide)]; rfl
/-- The array the kernel copies from by itself. -/
def streamed : Finset (Ref sig .tc) := {main_arg3}
/-- No window stages it. -/
theorem streamed_sub : streamed ⊆ Pipeline.restRefs sig spec0 := by decide
/-- The launch hands it over as it finds it. -/
theorem streamed_pts (c : Dev nD) :
    (bigSep streamed (fun b => ((c : Thread nD τ).loc b) ↦{fullShare} V m c b) : sProp 𝕄) = rowsP c (V m c main_arg3) := by
  rw [BI.bigSep_eq_bigSepL_of_eq [main_arg3] (by decide) (by decide)]; rfl
/-- The transposes after the region do not touch it. -/
theorem transposes_off : ∀ ops ∈ ([hostOps1] : List (List (HloOp τ sig (Elt F)))), ∀ op ∈ ops,
    op.bufs ⊆ Pipeline.tailRefsBut sig Pipeline.Prefetch.none spec0 streamed := by
  intro ops hops op hop
  obtain rfl := List.mem_singleton.1 hops
  refine Pipeline.sub_tailRefsBut Pipeline.Prefetch.none spec0 streamed op ((List.forall_iff_forall_mem.mp hostOps1_sub) op hop) (fun j => j.elim0) ?_
  intro b hb
  obtain rfl := Finset.mem_singleton.1 hb
  simp only [hostOps1, List.mem_cons, List.mem_nil_iff, or_false] at hop
  rcases hop with rfl | rfl <;>
    simp only [StableHlo.unary_bufs, Finset.mem_insert, Finset.mem_singleton, not_or] <;> and_intros <;> exact StableHlo.devRef_ne_of_ne (by decide)
/-- What the region starts from and ends with: the scratch, the generator register, the semaphores, the rows. -/
theorem handed_eq (c : Dev nD) :
    (Pipeline.ΦD ownSem spec0 streamed (V m) c : sProp 𝕄)
      = iprop((∃ d, owns (c : Thread nD τ) bankM fullShare d) ∗ (∃ r, prngReg c r) ∗ semsP c ∗ rowsP c (V m c main_arg3)) := by
  rw [Pipeline.ΦD_eq, scopedRest0_eq, ownSem_zero, streamed_pts]; simp only [bankM, owns_whole]; try rfl

set_option maxHeartbeats 800000 in
/-- The program is the reshape, the region, the transposes. -/
theorem main_is (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The proof data -/

/-- The first point. -/
abbrev t0 : Fin cfg0.N := ⟨0, by decide⟩
/-- The point's two blocks of the big results, and the third result. -/
def blockT (c : Dev nD) (t : Fin cfg0.N) : Vec F S2048x1024 .f32 := outT (iblk m c 1 t) (iblk m c 2 t) (rowsAt c (V m c main_arg3) t.val)
/-- What the body stores in the student block at point `t`. -/
def blockF (c : Dev nD) (t : Fin cfg0.N) : Vec F S2048x1024 .f32 := outF (iblk m c 0 t) (iblk m c 2 t) (rowsAt c (V m c main_arg3) t.val)
/-- What the first point stores as the similarities. -/
def sims (c : Dev nD) : Vec F S1024x1 .f32 := k0_pay2 (iblk m c 0 t0) (iblk m c 1 t0)

/-- Before point `k`: the generator register in some state, and the bank. -/
def inv (c : Dev nD) (k : ℕ) : sProp 𝕄 := iprop((∃ r, prngReg c r) ∗ bank c (V m c main_arg3) k)

/-- The pipeline's proof data: what each window's buffer holds after the body at each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockT m c t
    | ⟨4, _⟩ => blockF m c t
    | ⟨5, _⟩ => sims m c
  Φ t := inv m c t.val
  q _ := fullShare
  owed _ := 0

/-- Every window finds its array as the host left it. -/
theorem data_A (c : Dev nD) (w : Fin cfg0.W) : (dats m 0 c).A w = V m c (Pipeline.arrRef spec0 w) := by dsimp only [dats]
/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = blockT m c t := by dsimp only [dats]
theorem after_4 (c : Dev nD) (t : Fin cfg0.N) : (dats m 0 c).after 4 t = blockF m c t := by dsimp only [dats]
theorem after_5 (c : Dev nD) (t : Fin cfg0.N) : (dats m 0 c).after 5 t = sims m c := by dsimp only [dats]

/-- An input's buffer holds the input's block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [data_A]; try rfl) t d).trans
    (by unfold Dat.fetched Dat.blockOf iblk; rw [data_A]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [data_A]; try rfl) t d).trans
    (by unfold Dat.fetched Dat.blockOf iblk; rw [data_A]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [data_A]; try rfl) t d).trans
    (by unfold Dat.fetched Dat.blockOf iblk; rw [data_A]; try rfl)
/-- Only before the first point (and after the last) does nothing of the third result lie in its buffer. -/
theorem sim_fresh : ∀ n, n ≤ cfg0.N → cfg0.fresh 5 n = (n == 0 || n == 49) :=
  cfg0.fresh_tab 5 (fun n => n == 0 || n == 49) rfl (by decide +kernel)
/-- The third result's buffer keeps what the first point stored. -/
theorem before_5 (c : Dev nD) (t : Fin cfg0.N) (ht : t.val ≠ 0) (d) : (dats m 0 c).before 5 t d = sims m c := by
  have hN : t.val < 49 := lt_of_lt_of_eq t.isLt (show cfg0.N = 49 from N_0)
  have hf : cfg0.fresh 5 t.val = false := (sim_fresh t.val t.isLt.le).trans (by simp only [Bool.or_eq_false_iff, beq_eq_false_iff_ne]; omega)
  refine ((dats m 0 c).before_out_traj 5 rfl (fun _ _ => rfl) (fun _ _ _ _ => (after_5 m c _).trans (after_5 m c _).symm) t.val t rfl d).trans ?_
  rw [hf]
  exact after_5 m c _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
/-- What it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- A run of the body from some pieces of the bank (`pre`) to others (`post`), the rest of the bank (`rest`) aside,
    carries the proof data from before the point to after it. `sim` is what the run wants of the third result's buffer. -/
theorem sound_of_run (c : Dev nD) (t : Fin cfg0.N) (pre post rest sim : sProp 𝕄)
    (hpre : bank c (V m c main_arg3) t.val ⊢ iprop(pre ∗ rest)) (hpost : iprop(post ∗ rest) ⊢ bank c (V m c main_arg3) (t.val + 1))
    (hsim : iprop(∃ d, owns (c : Thread nD τ) (ms5 t) fullShare ((dats m 0 c).before 5 t d)) ⊢ sim)
    (hrun : ∀ (O : Waits sig Unit) (K : PUnit → sProp 𝕄),
      iprop(owns (c : Thread nD τ) (ms0 t) fullShare (iblk m c 0 t) ∗ owns (c : Thread nD τ) (ms1 t) fullShare (iblk m c 1 t)
          ∗ owns (c : Thread nD τ) (ms2 t) fullShare (iblk m c 2 t)
          ∗ (∃ d, owns (c : Thread nD τ) (ms3 t) fullShare d) ∗ (∃ d, owns (c : Thread nD τ) (ms4 t) fullShare d) ∗ sim
          ∗ pre ∗ owes (c : Thread nD τ) 0 O
          ∗ (iprop(owns (c : Thread nD τ) (ms0 t) fullShare (iblk m c 0 t) ∗ owns (c : Thread nD τ) (ms1 t) fullShare (iblk m c 1 t)
              ∗ owns (c : Thread nD τ) (ms2 t) fullShare (iblk m c 2 t)
              ∗ owns (c : Thread nD τ) (ms3 t) fullShare (blockT m c t) ∗ owns (c : Thread nD τ) (ms4 t) fullShare (blockF m c t)
              ∗ owns (c : Thread nD τ) (ms5 t) fullShare (sims m c) ∗ post ∗ (∃ O', owes (c : Thread nD τ) 0 O')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before_0, before_1, before_2]
  rw [after_0, after_1, after_2, after_3, after_4, after_5]
  rw [show (dats m 0 c).Φ t.castSucc = inv m c t.val from rfl, show (dats m 0 c).Φ t.succ = inv m c (t.val + 1) from rfl]
  unfold Dat.owesAt Pipeline.owesWithin inv
  rw [show (dats m 0 c).owed t.castSucc = 0 from rfl, show (dats m 0 c).owed t.succ = 0 from rfl]
  iintro ⟨⟨Hg, Hbank⟩, ⟨%O, -, HO⟩, ⟨%d0, H0⟩, ⟨%d1, H1⟩, ⟨%d2, H2⟩, ⟨%d3, H3⟩, ⟨%d4, H4⟩, H5⟩
  ihave Hbank := hpre $$ Hbank
  icases Hbank with ⟨Hpre, Hrest⟩
  ihave H5 := hsim $$ H5
  iapply (hrun O _)
  isplitl [H0]; · iexact H0
  isplitl [H1]; · iexact H1
  isplitl [H2]; · iexact H2
  isplitl [H3]; · iexists _; iexact H3
  isplitl [H4]; · iexists _; iexact H4
  isplitl [H5]; · iexact H5
  isplitl [Hpre]; · iexact Hpre
  isplitl [HO]; · iexact HO
  iintro ⟨H0, H1, H2, H3, H4, H5, Hpost, ⟨%O', HO⟩⟩
  isplitl [Hg Hpost Hrest]
  · isplitl [Hg]; · iexact Hg
    iapply hpost
    isplitl [Hpost]; · iexact Hpost
    iexact Hrest
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

/-- `sound_of_run` for a run whose resources are listed one by one. -/
theorem sound_regrouped (c : Dev nD) (t : Fin cfg0.N) (pre post rest sim : sProp 𝕄) (f : sProp 𝕄 → sProp 𝕄) (g : sProp 𝕄 → sProp 𝕄)
    (hpre : bank c (V m c main_arg3) t.val ⊢ iprop(pre ∗ rest)) (hpost : iprop(post ∗ rest) ⊢ bank c (V m c main_arg3) (t.val + 1))
    (hsim : iprop(∃ d, owns (c : Thread nD τ) (ms5 t) fullShare ((dats m 0 c).before 5 t d)) ⊢ sim)
    (hf : ∀ x, iprop(pre ∗ x) ⊢ f x) (hg : ∀ x, g x ⊢ iprop(post ∗ x))
    (hrun : ∀ (O : Waits sig Unit) (K : PUnit → sProp 𝕄),
      iprop(owns (c : Thread nD τ) (ms0 t) fullShare (iblk m c 0 t) ∗ owns (c : Thread nD τ) (ms1 t) fullShare (iblk m c 1 t)
          ∗ owns (c : Thread nD τ) (ms2 t) fullShare (iblk m c 2 t)
          ∗ (∃ d, owns (c : Thread nD τ) (ms3 t) fullShare d) ∗ (∃ d, owns (c : Thread nD τ) (ms4 t) fullShare d) ∗ sim
          ∗ f iprop(owes (c : Thread nD τ) 0 O
          ∗ (iprop(owns (c : Thread nD τ) (ms0 t) fullShare (iblk m c 0 t) ∗ owns (c : Thread nD τ) (ms1 t) fullShare (iblk m c 1 t)
              ∗ owns (c : Thread nD τ) (ms2 t) fullShare (iblk m c 2 t)
              ∗ owns (c : Thread nD τ) (ms3 t) fullShare (blockT m c t) ∗ owns (c : Thread nD τ) (ms4 t) fullShare (blockF m c t)
              ∗ owns (c : Thread nD τ) (ms5 t) fullShare (sims m c) ∗ g iprop(∃ O', owes (c : Thread nD τ) 0 O')) -∗ K ⟨⟩)))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  refine sound_of_run m c t pre post rest sim hpre hpost hsim fun O K => BIBase.Entails.trans ?_ (hrun O K)
  iintro ⟨H0, H1, H2, H3, H4, H5, HP, HO, HK⟩
  isplitl [H0]; · iexact H0
  isplitl [H1]; · iexact H1
  isplitl [H2]; · iexact H2
  isplitl [H3]; · iexact H3
  isplitl [H4]; · iexact H4
  isplitl [H5]; · iexact H5
  iapply (hf _)
  isplitl [HP]; · iexact HP
  isplitl [HO]; · iexact HO
  iintro ⟨H0, H1, H2, H3, H4, H5, HG⟩
  ihave HQ := (hg _) $$ HG
  icases HQ with ⟨HP, HO⟩
  iapply HK
  isplitl [H0]; · iexact H0
  isplitl [H1]; · iexact H1
  isplitl [H2]; · iexact H2
  isplitl [H3]; · iexact H3
  isplitl [H4]; · iexact H4
  isplitl [H5]; · iexact H5
  isplitl [HP]; · iexact HP
  iexact HO

/-- After the first point the third result's buffer holds that result. -/
theorem sim_kept (c : Dev nD) (t : Fin cfg0.N) (ht : t.val ≠ 0) :
    (iprop(∃ d, owns (c : Thread nD τ) (ms5 t) fullShare ((dats m 0 c).before 5 t d)) : sProp 𝕄) ⊢ owns (c : Thread nD τ) (ms5 t) fullShare (sims m c) := by
  simp only [before_5 m c t ht]
  iintro ⟨%d, H⟩; iexact H

set_option maxHeartbeats 800000 in
/-- The body at every point: five cases, by what it starts and awaits. -/
theorem sound_body (c : Dev nD) (t : Fin cfg0.N) :
    bodyPre m c t ⊢ wp frame (wpE (defs₀ (F := F)) Variants.none c none) Set.univ (bodyAt0 t) (fun _ => bodyPost m c t) := by
  have hN : t.val < 49 := lt_of_lt_of_eq t.isLt (show cfg0.N = 49 from N_0)
  have first := isFirst_iff t
  have sW := startsWhole_iff t
  have sT := startsTail_iff t
  have wW := waitsWhole_iff t
  have wT := waitsTail_iff t
  have ss := storesSim_iff t
  by_cases h0 : t.val = 0
  · obtain rfl : t = t0 := Fin.ext h0
    exact sound_regrouped m c t0 _ _ _ _ (fun x => iprop(free c (V m c main_arg3) (Ring.sl 4 t0.val) ∗ free c (V m c main_arg3) (Ring.sl 4 (t0.val + 1)) ∗ free c (V m c main_arg3) (Ring.sl 4 (t0.val + 2)) ∗ free c (V m c main_arg3) (Ring.sl 4 (t0.val + 3)) ∗ x)) (fun x => iprop(holds c (V m c main_arg3) (t0.val) ∗ coming c (V m c main_arg3) (t0.val + 1) ∗ coming c (V m c main_arg3) (t0.val + 2) ∗ coming c (V m c main_arg3) (t0.val + 3) ∗ x))
      (first_before c _ h0) (first_after c _ h0) (by iintro ⟨%d, H⟩; iexists _; iexact H)
      (fun x => by
        iintro ⟨⟨A, B, C, D⟩, X⟩
        isplitl [A]; · iexact A
        isplitl [B]; · iexact B
        isplitl [C]; · iexact C
        isplitl [D]; · iexact D
        iexact X)
      (fun x => by
        iintro ⟨A, B, C, D, X⟩
        isplitl [A B C D]
        · isplitl [A]; · iexact A
          isplitl [B]; · iexact B
          isplitl [C]; · iexact C
          iexact D
        iexact X)
      (fun O K => runA c t0 _ (hs0 t0) _ (hs1 t0) _ (hs2 t0) _ (hs3 t0) _ (hs4 t0) _ (hs5 t0) (first.2 h0) (sW.2 (by omega)) (fun h => by have := sT.1 h; omega)
        (wW.2 (by omega)) (fun h => by have := wT.1 h; omega) (ss.2 h0) (iblk m c 0 t0) (iblk m c 1 t0) (iblk m c 2 t0) (V m c main_arg3) O K)
  have nf : ¬isFirst (grid0.coords t) := fun h => h0 (first.1 h)
  have ns : ¬storesSim (grid0.coords t) := fun h => h0 (ss.1 h)
  by_cases h1 : t.val < 45
  · exact sound_regrouped m c t _ _ _ _ (fun x => iprop(coming c (V m c main_arg3) (t.val) ∗ free c (V m c main_arg3) (Ring.sl 4 (t.val + 3)) ∗ x)) (fun x => iprop(holds c (V m c main_arg3) (t.val) ∗ coming c (V m c main_arg3) (t.val + 3) ∗ x))
      (whole_before c _ (by omega) h1) (whole_after c _ (by omega) h1) (sim_kept m c t h0)
      (fun x => by
        iintro ⟨⟨A, B⟩, X⟩
        isplitl [A]; · iexact A
        isplitl [B]; · iexact B
        iexact X)
      (fun x => by
        iintro ⟨A, B, X⟩
        isplitl [A B]
        · isplitl [A]; · iexact A
          iexact B
        iexact X)
      (fun O K => runB c t _ (hs0 t) _ (hs1 t) _ (hs2 t) _ (hs3 t) _ (hs4 t) _ (hs5 t) nf (sW.2 h1) (fun h => by have := sT.1 h; omega)
        (wW.2 (by omega)) (fun h => by have := wT.1 h; omega) ns (iblk m c 0 t) (iblk m c 1 t) (iblk m c 2 t) (sims m c) (V m c main_arg3) O K)
  by_cases h2 : t.val = 45
  · exact sound_regrouped m c t _ _ _ _ (fun x => iprop(coming c (V m c main_arg3) (t.val) ∗ tailReady c (V m c main_arg3) ∗ x)) (fun x => iprop(holds c (V m c main_arg3) (t.val) ∗ tailComing c (V m c main_arg3) ∗ x))
      (short_before c _ h2) (short_after c _ h2) (sim_kept m c t h0)
      (fun x => by
        iintro ⟨⟨A, B⟩, X⟩
        isplitl [A]; · iexact A
        isplitl [B]; · iexact B
        iexact X)
      (fun x => by
        iintro ⟨A, B, X⟩
        isplitl [A B]
        · isplitl [A]; · iexact A
          iexact B
        iexact X)
      (fun O K => runC c t _ (hs0 t) _ (hs1 t) _ (hs2 t) _ (hs3 t) _ (hs4 t) _ (hs5 t) nf (fun h => by have := sW.1 h; omega) (sT.2 h2)
        (wW.2 (by omega)) (fun h => by have := wT.1 h; omega) ns (iblk m c 0 t) (iblk m c 1 t) (iblk m c 2 t) (sims m c) (V m c main_arg3) O K)
  by_cases h3 : t.val < 48
  · exact sound_regrouped m c t _ _ _ _ (fun x => iprop(coming c (V m c main_arg3) (t.val) ∗ x)) (fun x => iprop(holds c (V m c main_arg3) (t.val) ∗ x))
      (none_before c _ (by omega) h3) (none_after c _ (by omega) h3) (sim_kept m c t h0)
      (fun _ => .rfl)
      (fun _ => .rfl)
      (fun O K => runD c t _ (hs0 t) _ (hs1 t) _ (hs2 t) _ (hs3 t) _ (hs4 t) _ (hs5 t) nf (fun h => by have := sW.1 h; omega) (fun h => by have := sT.1 h; omega)
        (wW.2 h3) (fun h => by have := wT.1 h; omega) ns (iblk m c 0 t) (iblk m c 1 t) (iblk m c 2 t) (sims m c) (V m c main_arg3) O K)
  have h4 : t.val = 48 := by omega
  exact sound_regrouped m c t _ _ _ _ (fun x => iprop(tailComing c (V m c main_arg3) ∗ x)) (fun x => iprop(free c (V m c main_arg3) (0) ∗ tailCellP c ∗ x))
      (last_before c _ h4) (last_after c _ h4) (sim_kept m c t h0)
      (fun _ => .rfl)
      (fun x => by
        iintro ⟨A, B, X⟩
        isplitl [A B]
        · isplitl [A]; · iexact A
          iexact B
        iexact X)
      (fun O K => runE c t _ (hs0 t) _ (hs1 t) _ (hs2 t) _ (hs3 t) _ (hs4 t) _ (hs5 t) nf (fun h => by have := sW.1 h; omega) (fun h => by have := sT.1 h; omega)
        (fun h => by have := wW.1 h; omega) (wT.2 h4) ns (iblk m c 0 t) (iblk m c 1 t) (iblk m c 2 t) (sims m c) (V m c main_arg3) O K)

/-- The label of the body is the body at the point. -/
theorem body_row (t : Fin cfg0.N) : defs₀ (F := F) .tc cfg0.body (cfg0.bodyArgs t (cfg0.slots t)) = bodyAt0 t := by
  unfold defs₀; rw [Defs.onTc_tc]
/-- Where the body stores nothing in the third result's buffer, it hands it back as it found it. -/
theorem sim_back (c : Dev nD) (t : Fin cfg0.N) :
    (owns (c : Thread nD τ) (ms5 t) fullShare ((dats m 0 c).after 5 t) : sProp 𝕄) ⊢
      match cfg0.idle 5 (cfg0.grid.coords t) with
      | true =>
        match (cfg0.win 5).flush t with
        | false => iprop(∃ d, owns (c : Thread nD τ) ((cfg0.win 5).stage (cfg0.slots t 5)) fullShare ((dats m 0 c).before 5 t d))
        | true => owns (c : Thread nD τ) ((cfg0.win 5).stage (cfg0.slots t 5)) fullShare ((dats m 0 c).after 5 t)
      | false => owns (c : Thread nD τ) ((cfg0.win 5).stage (cfg0.slots t 5)) fullShare ((dats m 0 c).after 5 t) := by
  cases hi : cfg0.idle 5 (cfg0.grid.coords t)
  · exact Entails.refl _
  · cases (cfg0.win 5).flush t
    · have ht : t.val ≠ 0 := fun h => by
        have hs : storesSim (grid0.coords t) := (storesSim_iff t).2 h
        have hi' : (!(k0_cond6 (grid0.coords t) == 1#1)) = true := hi
        rw [show k0_cond6 (grid0.coords t) = 1#1 from hs] at hi'
        exact absurd hi' (by decide)
      dsimp only
      rw [after_5]
      simp only [before_5 m c t ht]
      iintro H
      iexists (sims m c); iexact H
    · exact Entails.refl _
/-- The body does at every point what the pipeline asks of it. -/
theorem body_obligation (c : Dev nD) : BodyObligation (dats (F := F) m 0 c) (defs₀ (F := F)) Variants.none () Set.univ := fun t => by
  rw [bigSep_W0, bigSep_W0, body_row]
  refine triple_restated (sound_body m c t) rfl .rfl fun _ => ?_
  unfold bodyPost
  exact sep_mono .rfl (sep_mono .rfl (sep_mono .rfl (sep_mono .rfl (sep_mono .rfl (sep_mono .rfl (sep_mono .rfl (sim_back m c t)))))))

/-- The launch's hand-over is the bank before the first point; the bank after the last is what it takes back. -/
theorem launch_in (c : Dev nD) : Pipeline.ΦD ownSem spec0 streamed (V m) c ⊢ (dats m 0 c).Φ 0 := by
  rw [handed_eq, show (dats m 0 c).Φ 0 = inv m c 0 from rfl]
  unfold inv
  rw [show (bank c (V m c main_arg3) 0 : sProp 𝕄) = iprop(free c (V m c main_arg3) 0 ∗ free c (V m c main_arg3) 1 ∗ free c (V m c main_arg3) 2 ∗ free c (V m c main_arg3) 3 ∗ tailCellP c) from rfl]
  iintro ⟨A, Hg, S, R⟩
  isplitl [Hg]; · iexact Hg
  iapply (free_iff c (V m c main_arg3)).2
  isplitl [A]; · iexact A
  isplitl [S]; · iexact S
  iexact R
/-- After the last point the kernel hands everything back. -/
theorem launch_out (c : Dev nD) : (dats m 0 c).Φ (Fin.last cfg0.N) ⊢ Pipeline.ΦD ownSem spec0 streamed (V m) c := by
  rw [handed_eq, show (dats m 0 c).Φ (Fin.last cfg0.N) = inv m c grid0.N from rfl, show grid0.N = 49 from N_0]
  unfold inv
  rw [show (bank c (V m c main_arg3) 49 : sProp 𝕄) = iprop(free c (V m c main_arg3) 0 ∗ free c (V m c main_arg3) 1 ∗ free c (V m c main_arg3) 2 ∗ free c (V m c main_arg3) 3 ∗ tailCellP c) from by
    unfold bank; rw [if_neg (by omega), if_neg (by omega), if_neg (by omega)]]
  iintro ⟨Hg, H⟩
  ihave H := (free_iff c (V m c main_arg3)).1 $$ H
  icases H with ⟨A, S, R⟩
  isplitl [A]; · iexact A
  isplitl [Hg]; · iexact Hg
  isplitl [S]; · iexact S
  iexact R

/-! ## The program's run -/

set_option backward.isDefEq.respectTransparency.types false in
set_option maxHeartbeats 800000 in
/-- Every execution of the program terminates; then each array of the pipeline is what the proof data makes it, every
    other buffer what the lines after the region leave, and every counter is zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownSem defs₀ Variants.none ownSem_facts streamed streamed_sub m ρ main
    (hbody := fun c => (body_obligation m c).loose) (hshare := fun c => (dats m 0 c).share_full fun _ => rfl)
    (howed := fun _ _ => rfl) (V₀ := V0 m) (opss := [hostOps1]) (hsub := transposes_off) (hfresh := sfx_fresh) (hkeep := sfx_keeps)
    (hmain := main_is m Variants.none) (hA := data_A m) (hin := launch_in m) (hout := launch_out m)

end Cert.KernelIdeal.Bank

end
-- ==== Proof.Bank.Frame.lean ====
/-
  The frame of the whole program, and each result as the array that the pipeline leaves.
-/
module

public import proofs.«01_k».proof.Proof.Bank.Launch

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- What every buffer of the host holds at the end. -/
abbrev atEnd (c : Dev nD) (b : Ref sig .tc) : Buf (Elt F) ((c : Thread nD τ).loc b) :=
  Pipeline.afterTail₀ cfgs (dats m) 0 (V0 m) [hostOps1] c b

/-- A buffer that is neither a result of the transposes nor one of the pipeline's arrays is as it was before the region. -/
theorem atEnd_other (c : Dev nD) (b : Ref sig .tc) (h2 : b ≠ main_v2) (h3 : b ≠ main_v3) (hw : ∀ w, Pipeline.arrRef spec0 w ≠ b) :
    atEnd m c b = V m c b := by
  unfold atEnd Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact ⟨StableHlo.devRef_ne_of_ne h2, StableHlo.devRef_ne_of_ne h3⟩)),
    Pipeline.withArrays_of_ne _ c (V0 m c) _ b hw]

/-- The windows' arrays are distinct buffers. -/
theorem arrays_distinct : Function.Injective (Pipeline.arrRef spec0) := by decide

/-- The first result is the transpose of the teacher array. -/
theorem atEnd_v2 (c : Dev nD) :
    atEnd m c main_v2 = (transpose S1024x100000 [1, 0] ((dats m 0 c).arrAt 3 cfg0.N) transposes_S100000x1024_S1024x100000_1_0 : (⟨S1024x100000, .f32⟩ : BufTy).Contents (Elt F)) := by
  unfold atEnd Pipeline.afterTail₀
  show StableHlo.after hostOps1 (Pipeline.withArrays spec0 c (V0 m c) fun w => (dats m 0 c).arrAt w cfg0.N) (Proc.devRef .tc main_v2) = _
  rw [hostOps1]
  after_results
  exact congrArg (fun x => (transpose S1024x100000 [1, 0] x transposes_S100000x1024_S1024x100000_1_0 : (⟨S1024x100000, .f32⟩ : BufTy).Contents (Elt F)))
    (Pipeline.withArrays_arr spec0 arrays_distinct c (V0 m c) (fun w => (dats m 0 c).arrAt w cfg0.N) 3)
/-- The second result is the transpose of the student array. -/
theorem atEnd_v3 (c : Dev nD) :
    atEnd m c main_v3 = (transpose S1024x100000 [1, 0] ((dats m 0 c).arrAt 4 cfg0.N) transposes_S100000x1024_S1024x100000_1_0 : (⟨S1024x100000, .f32⟩ : BufTy).Contents (Elt F)) := by
  unfold atEnd Pipeline.afterTail₀
  show StableHlo.after hostOps1 (Pipeline.withArrays spec0 c (V0 m c) fun w => (dats m 0 c).arrAt w cfg0.N) (Proc.devRef .tc main_v3) = _
  rw [hostOps1]
  after_results
  exact congrArg (fun x => (transpose S1024x100000 [1, 0] x transposes_S100000x1024_S1024x100000_1_0 : (⟨S1024x100000, .f32⟩ : BufTy).Contents (Elt F)))
    (Pipeline.withArrays_arr spec0 arrays_distinct c (V0 m c) (fun w => (dats m 0 c).arrAt w cfg0.N) 4)

/-- The program's run: the three results in terms of the pipeline's arrays, the arguments unchanged, every counter zero. -/
theorem run : θ_run defs (onTc (τ := τ) (main (F := F))) ⟨m, fun _ => 0, ρ⟩ (fun r => (∀ c : Dev nD,
      r.2.mem ((c.tc : Thread nD τ).loc main_v2) = (transpose S1024x100000 [1, 0] ((dats m 0 c).arrAt 3 cfg0.N) transposes_S100000x1024_S1024x100000_1_0 : (⟨S1024x100000, .f32⟩ : BufTy).Contents (Elt F))
      ∧ r.2.mem ((c.tc : Thread nD τ).loc main_v3) = (transpose S1024x100000 [1, 0] ((dats m 0 c).arrAt 4 cfg0.N) transposes_S100000x1024_S1024x100000_1_0 : (⟨S1024x100000, .f32⟩ : BufTy).Contents (Elt F))
      ∧ r.2.mem ((c.tc : Thread nD τ).loc main_v1_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_quiet m ρ)
  have hc := h.1 c
  have rest : ∀ b, b ∈ Pipeline.restRefs sig spec0 → r.2.mem ((c : Thread nD τ).loc b) = atEnd m c b := hc.2
  exact ⟨(rest main_v2 (Pipeline.mem_restRefs_of main_v2 (by decide) (by decide))).trans (atEnd_v2 m c),
    (rest main_v3 (Pipeline.mem_restRefs_of main_v3 (by decide) (by decide))).trans (atEnd_v3 m c),
    hc.1 5,
    (hc.1 0).trans (((dats m 0 c).arrAt_in 0 rfl _).trans ((data_A m c 0).trans (V_main_arg0 m c))),
    (hc.1 1).trans (((dats m 0 c).arrAt_in 1 rfl _).trans ((data_A m c 1).trans (V_main_arg1 m c))),
    ((rest main_arg2 (Pipeline.mem_restRefs_of main_arg2 (by decide) (by decide))).trans (atEnd_other m c _ (by decide) (by decide) (by decide))).trans (V_main_arg2 m c),
    ((rest main_arg3 (Pipeline.mem_restRefs_of main_arg3 (by decide) (by decide))).trans (atEnd_other m c _ (by decide) (by decide) (by decide))).trans (V_main_arg3 m c),
    ((rest main_arg4 (Pipeline.mem_restRefs_of main_arg4 (by decide) (by decide))).trans (atEnd_other m c _ (by decide) (by decide) (by decide))).trans (V_main_arg4 m c)⟩

/-- The frame: the program terminates, its arguments are unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2.2, h.2⟩) (run m ρ)

end Cert.KernelIdeal.Bank

end
-- ==== Proof.Bank.Value.lean ====
/-
  Over the extended reals: what one block holds, entry by entry.
-/
module

public import proofs.«01_k».proof.Proof.Bank.Frame
public import Idealize.ShloMosaic.Lib.Pointwise
public import Idealize.ShloMosaic.Lib.ValueIdx
public import Idealize.ShloMosaic.Lib.Pipeline.ValueKit.Geometry

@[expose] public section

set_option maxRecDepth 16384

noncomputable section

namespace Cert.KernelIdeal.Bank

open Cert.KernelIdeal Cert.KernelIdeal.Gen
open Idealize.ShloMosaic Idealize.ShloMosaic.TcCoe Idealize.ShloMosaic.Tactic
open Idealize.SL Idealize.SL.Sem

/-- An entry of a student block: the row of the block times the row of the features, times the inverse temperature. -/
theorem outF_at (x0 : Vec Ideal S1024x64 .f32) (x2 : Vec Ideal S1x2 .f32) (r : FVec Ideal S2048x64 .f32) (a : Fin 2048) (b : Fin 1024) :
    outF x0 x2 r (ix2 a b) = (∑ k : Fin 64, r (ix2 a k) * x0 (ix2 b k)) * Ideal.div 1 (x2 (ix2 0 0)) := by
  unfold outF k0_pay3 temp
  pointwise
  rfl

/-- An entry of a teacher block: the same with the other features and the inverse temperature squared. -/
theorem outT_at (x1 : Vec Ideal S1024x64 .f32) (x2 : Vec Ideal S1x2 .f32) (r : FVec Ideal S2048x64 .f32) (a : Fin 2048) (b : Fin 1024) :
    outT x1 x2 r (ix2 a b) = (∑ k : Fin 64, r (ix2 a k) * x1 (ix2 b k)) * (Ideal.div 1 (x2 (ix2 0 0)) * Ideal.div 1 (x2 (ix2 0 0))) := by
  unfold outT k0_pay1 k0_pay3 temp
  pointwise
  rfl

/-- An entry of the similarities. -/
theorem sim_at (x0 x1 : Vec Ideal S1024x64 .f32) (b : Fin 1024) (z : Fin 1) :
    k0_pay2 (F := Ideal) x0 x1 (ix2 b z) = ∑ k : Fin 64, x0 (ix2 b k) * x1 (ix2 b k) := by
  unfold k0_pay2
  pointwise

variable (m : (ℓ : Loc nD τ sig) → Buf (Elt Ideal) ℓ)

/-- The staged features are the whole arrays, at every point. -/
theorem block0 (c : Dev nD) (t : Fin cfg0.N) : (iblk m c 0 t : Vec Ideal S1024x64 .f32) = m ((c : Thread nD τ).loc main_arg0) := by
  rw [← V_main_arg0 m c]
  funext i
  unfold iblk
  blk_simp
  refine congrArg (V m c main_arg0) (funext fun a => Fin.ext ?_)
  exact win0_0.rect_emb_val_of_index_zero t a ((by decide +kernel : ∀ (t : Fin grid0.N) (a : Fin 2), win0_0.index t a = 0) t a) i
theorem block1 (c : Dev nD) (t : Fin cfg0.N) : (iblk m c 1 t : Vec Ideal S1024x64 .f32) = m ((c : Thread nD τ).loc main_arg1) := by
  rw [← V_main_arg1 m c]
  funext i
  unfold iblk
  blk_simp
  refine congrArg (V m c main_arg1) (funext fun a => Fin.ext ?_)
  exact win0_1.rect_emb_val_of_index_zero t a ((by decide +kernel : ∀ (t : Fin grid0.N) (a : Fin 2), win0_1.index t a = 0) t a) i
/-- The parameters as the region finds them: the argument as one row. -/
theorem params (c : Dev nD) : V m c main_v0 = (shapeCast S1x2 (m ((c : Thread nD τ).loc main_arg4) : Vec Ideal S2 .f32) shapeCasts_S2_S1x2 : Vec Ideal S1x2 .f32) := by
  show StableHlo.after hostOps0 (fun b => m (c, b)) (Proc.devRef .tc main_v0) = _
  rw [hostOps0]
  after_results
  rfl
/-- The staged parameters start with the temperature. -/
theorem block2 (c : Dev nD) (t : Fin cfg0.N) : (iblk m c 2 t : Vec Ideal S1x2 .f32) (ix2 0 0) = (m ((c : Thread nD τ).loc main_arg4) : Vec Ideal S2 .f32) (ix1 0) := by
  have h : (iblk m c 2 t : Vec Ideal S1x2 .f32) = V m c main_v0 := by
    funext i
    unfold iblk
    blk_simp
    refine congrArg (V m c main_v0) (funext fun a => Fin.ext ?_)
    exact win0_2.rect_emb_val_of_index_zero t a ((by decide +kernel : ∀ (t : Fin grid0.N) (a : Fin 2), win0_2.index t a = 0) t a) i
  rw [h, params]
  pointwise

/-- The products of the rows of `W` with the rows of `x`, times `s`: one row for each row of `W`. -/
def products (W : Vec Ideal S100000x64 .f32) (x : Vec Ideal S1024x64 .f32) (s : EReal) : Vec Ideal S100000x1024 .f32 := fun i =>
  (∑ k : Fin 64, W (ix2 (i 0) k) * x (ix2 (i 1) k)) * s
/-- The inverse of the temperature. -/
def inverse (p : Vec Ideal S2 .f32) : EReal := Ideal.div 1 (p (ix1 0))

/-- The row of the block that lies in the array. -/
theorem row_in (t : Fin grid0.N) (a : Fin 2048) (h : a.val < if t.val = 48 then 1696 else 2048) : (rowNo t.val a).val = t.val * 2048 + a.val := by
  have hN : t.val < 49 := lt_of_lt_of_eq t.isLt (show grid0.N = 49 from N_0)
  unfold rowNo
  split
  · show 2048 * t.val + a.val = _; omega
  · rw [if_pos (by omega)] at h
    rw [dif_pos h]
    show 98304 + a.val = _; omega

/-- The teacher array at the end. -/
theorem final_3 (c : Dev nD) : (dats m 0 c).arrAt 3 cfg0.N =
    products (m ((c : Thread nD τ).loc main_arg3)) (m ((c : Thread nD τ).loc main_arg1)) (inverse (m ((c : Thread nD τ).loc main_arg4)) * inverse (m ((c : Thread nD τ).loc main_arg4))) := by
  refine (dats m 0 c).arrAt_eq_of_covers 3 _ (by decide +kernel) fun t hf y => ?_
  blk_simp
  rw [after_3]
  unfold blockT
  have hy : (y 0).val < if t.val = 48 then 1696 else 2048 :=
    lt_of_lt_of_eq (y 0).isLt ((by decide +kernel : ∀ t : Fin grid0.N, win0_3.xsize (grid0.coords t) 0 = if t.val = 48 then 1696 else 2048) t)
  have hy1 : (y 1).val < 1024 :=
    lt_of_lt_of_eq (y 1).isLt ((by decide +kernel : ∀ t : Fin grid0.N, win0_3.xsize (grid0.coords t) 1 = 1024) t)
  have hy0 : (y 0).val < 2048 := by split at hy <;> omega
  have e : (cfg0.win 3).xinj (cfg0.grid.coords t) y = (ix2 ⟨(y 0).val, hy0⟩ ⟨(y 1).val, hy1⟩ : S2048x1024.Idx) := by
    funext a; apply Fin.ext; fin_cases a <;> rfl
  have e' : (win0_3.blk t).view.emb y = (ix2 (rowNo t.val ⟨(y 0).val, hy0⟩) ⟨(y 1).val, hy1⟩ : S100000x1024.Idx) := by
    funext a; apply Fin.ext; fin_cases a
    · refine Eq.trans (win0_3.rect_emb_val t y 0) ?_
      rw [show win0_3.index t 0 = t.val from (by decide +kernel : ∀ t : Fin grid0.N, win0_3.index t 0 = t.val) t]
      exact (row_in t ⟨(y 0).val, hy0⟩ hy).symm
    · exact win0_3.rect_emb_val_of_index_zero t 1 ((by decide +kernel : ∀ t : Fin grid0.N, win0_3.index t 1 = 0) t) y
  rw [e]
  refine Eq.trans ?_ (congrArg _ e'.symm)
  rw [outT_at, block1, block2, V_main_arg3]
  rfl

/-- The student array at the end. -/
theorem final_4 (c : Dev nD) : (dats m 0 c).arrAt 4 cfg0.N =
    products (m ((c : Thread nD τ).loc main_arg3)) (m ((c : Thread nD τ).loc main_arg0)) (inverse (m ((c : Thread nD τ).loc main_arg4))) := by
  refine (dats m 0 c).arrAt_eq_of_covers 4 _ (by decide +kernel) fun t hf y => ?_
  blk_simp
  rw [after_4]
  unfold blockF
  have hy : (y 0).val < if t.val = 48 then 1696 else 2048 :=
    lt_of_lt_of_eq (y 0).isLt ((by decide +kernel : ∀ t : Fin grid0.N, win0_4.xsize (grid0.coords t) 0 = if t.val = 48 then 1696 else 2048) t)
  have hy1 : (y 1).val < 1024 :=
    lt_of_lt_of_eq (y 1).isLt ((by decide +kernel : ∀ t : Fin grid0.N, win0_4.xsize (grid0.coords t) 1 = 1024) t)
  have hy0 : (y 0).val < 2048 := by split at hy <;> omega
  have e : (cfg0.win 4).xinj (cfg0.grid.coords t) y = (ix2 ⟨(y 0).val, hy0⟩ ⟨(y 1).val, hy1⟩ : S2048x1024.Idx) := by
    funext a; apply Fin.ext; fin_cases a <;> rfl
  have e' : (win0_4.blk t).view.emb y = (ix2 (rowNo t.val ⟨(y 0).val, hy0⟩) ⟨(y 1).val, hy1⟩ : S100000x1024.Idx) := by
    funext a; apply Fin.ext; fin_cases a
    · refine Eq.trans (win0_4.rect_emb_val t y 0) ?_
      rw [show win0_4.index t 0 = t.val from (by decide +kernel : ∀ t : Fin grid0.N, win0_4.index t 0 = t.val) t]
      exact (row_in t ⟨(y 0).val, hy0⟩ hy).symm
    · exact win0_4.rect_emb_val_of_index_zero t 1 ((by decide +kernel : ∀ t : Fin grid0.N, win0_4.index t 1 = 0) t) y
  rw [e]
  refine Eq.trans ?_ (congrArg _ e'.symm)
  rw [outF_at, block0, block2, V_main_arg3]
  rfl

/-- The similarities at the end. -/
theorem final_5 (c : Dev nD) : (dats m 0 c).arrAt 5 cfg0.N = (k0_pay2 (F := Ideal) (m ((c : Thread nD τ).loc main_arg0)) (m ((c : Thread nD τ).loc main_arg1)) : Vec Ideal S1024x1 .f32) := by
  refine (dats m 0 c).arrAt_eq_of_covers 5 _ (by decide +kernel) fun t hf y => ?_
  blk_simp
  rw [after_5]
  unfold sims
  rw [block0, block1]
  refine congrArg (k0_pay2 (F := Ideal) (m ((c : Thread nD τ).loc main_arg0)) (m ((c : Thread nD τ).loc main_arg1))) (funext fun a => Fin.ext ?_)
  exact (win0_5.rect_emb_val_of_index_zero t a ((by decide +kernel : ∀ (t : Fin grid0.N) (a : Fin 2), win0_5.index t a = 0) t a) y).symm

end Cert.KernelIdeal.Bank

end
-- ==== Proof.Bank.Equation.lean ====
/-
  The equation over the extended reals: the kernel's arrays are the reference's.
-/
module

public import proofs.«01_k».proof.Proof.Bank.Value
public import proofs.«01_k».proof.Proof.Gen.ReferenceIdeal.Run
public import proofs.«01_k».proof.Proof.Gen.Pre_temperature_nonzero

@[expose] public section

set_option maxRecDepth 16384

noncomputable section

namespace Cert.Equation

open Idealize.ShloMosaic Idealize.ShloMosaic.Tactic
open Cert.KernelIdeal.Bank (products inverse)
open Cert.ReferenceIdeal Cert.ReferenceIdeal.Gen Cert.ReferenceIdeal.Facts

/-- Dividing by a number that is not zero is multiplying by one over it. -/
theorem div_eq (x d : EReal) (h : d ≠ 0) : Ideal.div x d = x * Ideal.div 1 d := by
  unfold Ideal.div
  rw [if_neg h, if_neg h, one_mul]

/-- The precondition says that the temperature is not zero. -/
theorem nonzero (a0 a1 : FVec Ideal S1024x64 .f32) (a2 : IVec S1024 32) (W : FVec Ideal S100000x64 .f32) (p : FVec Ideal S2 .f32)
    (h : Cert.Pre_temperature_nonzero.fn (F := Ideal) a0 a1 a2 W p = fun _ => 1#1) : (p (ix1 0) : EReal) ≠ 0 := by
  have h0 := congrFun h (fun a => a.elim0)
  unfold Cert.Pre_temperature_nonzero.fn at h0
  pointwise at h0
  intro e
  rw [decide_eq_false (not_not.2 e)] at h0
  exact absurd h0 (by decide)

/-- The second result. -/
theorem student (x : FVec Ideal S1024x64 .f32) (W : FVec Ideal S100000x64 .f32) (p : FVec Ideal S2 .f32) (h : (p (ix1 0) : EReal) ≠ 0) :
    (transpose Cert.KernelIdeal.S1024x100000 [1, 0] (products W x (inverse p)) Cert.KernelIdeal.Facts₀.transposes_S100000x1024_S1024x100000_1_0 : Vec Ideal S1024x100000 .f32)
      = Host.divf (Host.dotGeneral dot_S1024x64_S64x100000_S1024x100000_1_0_0_1_n_n none x (transpose S64x100000 [1, 0] W transposes_S100000x64_S64x100000_1_0))
          (broadcastInDim S1024x100000 ![] bcast_S_S1024x100000 (shapeCast _ (extractStridedSlice S1 ![0] p slices_S2_S1_0) shapeCasts_S1_S_)) := by
  funext i
  pointwise
  rw [div_eq _ _ h]
  exact congrArg (· * inverse p) (Finset.sum_congr rfl fun k _ => mul_comm _ _)

/-- The first result. -/
theorem teacher (x : FVec Ideal S1024x64 .f32) (W : FVec Ideal S100000x64 .f32) (p : FVec Ideal S2 .f32) (h : (p (ix1 0) : EReal) ≠ 0) :
    (transpose Cert.KernelIdeal.S1024x100000 [1, 0] (products W x (inverse p * inverse p)) Cert.KernelIdeal.Facts₀.transposes_S100000x1024_S1024x100000_1_0 : Vec Ideal S1024x100000 .f32)
      = Host.divf (Host.divf (Host.dotGeneral dot_S1024x64_S64x100000_S1024x100000_1_0_0_1_n_n none x (transpose S64x100000 [1, 0] W transposes_S100000x64_S64x100000_1_0))
          (broadcastInDim S1024x100000 ![] bcast_S_S1024x100000 (shapeCast _ (extractStridedSlice S1 ![0] p slices_S2_S1_0) shapeCasts_S1_S_)))
          (broadcastInDim S1024x100000 ![] bcast_S_S1024x100000 (shapeCast _ (extractStridedSlice S1 ![0] p slices_S2_S1_0) shapeCasts_S1_S_)) := by
  funext i
  pointwise
  rw [div_eq _ _ h, div_eq _ _ h, mul_assoc]
  exact congrArg (· * (inverse p * inverse p)) (Finset.sum_congr rfl fun k _ => mul_comm _ _)

/-- The third result. -/
theorem similarity (x y : FVec Ideal S1024x64 .f32) :
    (Cert.KernelIdeal.Gen.k0_pay2 (F := Ideal) x y : Vec Ideal S1024x1 .f32)
      = broadcastInDim S1024x1 ![0] bcast_S1024_S1024x1_0 (Host.reduceAdd (mulf x y) (constant S_ .f32 0x00000000#32) reducesTo_S1024x64_S1024_d1 h_S_) := by
  funext i
  obtain ⟨a, b, rfl⟩ : ∃ a b, i = ix2 a b := ⟨i 0, i 1, by funext k; fin_cases k <;> rfl⟩
  rw [Cert.KernelIdeal.Bank.sim_at]
  pointwise

end Cert.Equation

end
-- ==== Proof.lean ====
/-
  The proof of `Cert.Claim`: the kernel and the reference terminate, leave their arguments unchanged and every semaphore
  counter at zero; the ideal program is the kernel over the extended reals; and the three results of the kernel are the
  reference's over the extended reals, where the temperature is not zero.

  Proof/Bank: the kernel. Names, State: the bank of four slots, the copies into it and who holds what between two grid
  points. Blocks: what a slot holds. RunA … RunE: the body at a point, by what it starts and awaits. Steps, Launch: the
  points in order and the run of the whole program. Frame: its results and arguments. Value: the results entry by entry.
  Equation: they are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_temperature_nonzero
public import proofs.«01_k».proof.Proof.SameProgram
public import proofs.«01_k».proof.Proof.Bank.Frame
public import proofs.«01_k».proof.Proof.Bank.Value
public import proofs.«01_k».proof.Proof.Bank.Equation
public import Idealize.ShloMosaic.Adequacy
public import Idealize.ShloMosaic.Init

@[expose] public section

noncomputable section

namespace Cert.Proof

open Idealize.ShloMosaic Idealize.ShloMosaic.TcCoe Idealize.SL.Sem

/-- The kernel's frame, on machine floats: it is the ideal program's text. -/
theorem frame_kernel : Cert.quiescent_Kernel := fun m g _ =>
  Cert.SameProgram.transport m g _ (Cert.KernelIdeal.Bank.frame (F := Bits) m g)

/-- The reference's frame. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Kernel and reference compute the same three results where the temperature is not zero. -/
theorem same_results : Cert.algebraic_KernelIdeal_ReferenceIdeal_pre_temperature_nonzero := by
  intro m g m' g' hpre hargs
  refine ⟨_, _, _, (θ_run Cert.KernelIdeal.defs _ _).mono (fun r h => h.1) (Cert.KernelIdeal.Bank.run (F := Ideal) m g),
    (θ_run Cert.ReferenceIdeal.defs _ _).mono (fun r h c => ?_) (Cert.ReferenceIdeal.Value.run (F := Ideal) m' g')⟩
  obtain ⟨h14, h5, h12, hrest⟩ := h c
  obtain ⟨e0, e1, -, e3, e4⟩ := hargs c
  have ht := Cert.Equation.nonzero _ _ _ _ _ (hpre c)
  rw [e1, e3, e4] at h14
  rw [e0, e3, e4] at h5
  rw [e0, e1] at h12
  refine ⟨h14.trans ?_, h5.trans ?_, h12.trans ?_, hrest⟩
  · rw [Cert.KernelIdeal.Bank.final_3]
    exact (Cert.Equation.teacher _ _ _ ht).symm
  · rw [Cert.KernelIdeal.Bank.final_4]
    exact (Cert.Equation.student _ _ _ ht).symm
  · rw [Cert.KernelIdeal.Bank.final_5]
    exact (Cert.Equation.similarity _ _).symm

/-- Every claim. -/
theorem claim : Cert.Claim :=
  ⟨Cert.Kernel.Gen.facts, Cert.KernelIdeal.Gen.facts, Cert.ReferenceIdeal.Gen.facts, Cert.Pre_temperature_nonzero.Gen.facts,
    frame_kernel,
    fun m g _ => Cert.KernelIdeal.Bank.frame (F := Ideal) m g,
    fun m g _ => Cert.KernelIdeal.Bank.frame (F := Ideal) m g,
    frame_reference,
    fun m g _ => frame_reference m g trivial,
    trivial,
    same_results⟩

end Cert.Proof

end
